-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![8192, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 2048]⟩ ⟨2, ![512, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S32x2048 : Shape := ⟨2, ![32, 2048]⟩
abbrev S4x2x8x2048 : Shape := ⟨4, ![4, 2, 8, 2048]⟩
abbrev S4x8x2x8x2048 : Shape := ⟨5, ![4, 8, 2, 8, 2048]⟩
abbrev S4x8x2 : Shape := ⟨3, ![4, 8, 2]⟩
abbrev S32x512 : Shape := ⟨2, ![32, 512]⟩
abbrev S128x512 : Shape := ⟨2, ![128, 512]⟩
abbrev S128x2048 : Shape := ⟨2, ![128, 2048]⟩
abbrev S8x2048 : Shape := ⟨2, ![8, 2048]⟩
abbrev S1x1x8x2048 : Shape := ⟨4, ![1, 1, 8, 2048]⟩
abbrev S_ : Shape := ⟨0, ![]⟩
abbrev S1x1x1 : Shape := ⟨3, ![1, 1, 1]⟩
abbrev S1x1x1x8x2048 : Shape := ⟨5, ![1, 1, 1, 8, 2048]⟩

abbrev nBuf : Space → Nat
  | .hbm => 3
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S32x2048, .f32⟩
  | .local _ .vmem, ⟨0, _⟩ => ⟨S512x512, .f32⟩
  | .local _ .vmem, ⟨1, _⟩ => ⟨S512x2048, .f32⟩
  | .local _ .vmem, ⟨2, _⟩ => ⟨S32x2048, .f32⟩
  | .local _ .vmem, ⟨3, _⟩ => ⟨S512x512, .f32⟩
  | .local _ .vmem, ⟨4, _⟩ => ⟨S512x512, .f32⟩
  | .local _ .vmem, ⟨5, _⟩ => ⟨S512x2048, .f32⟩
  | .local _ .vmem, ⟨6, _⟩ => ⟨S4x2x8x2048, .bf16⟩
  | .local _ .vmem, ⟨7, _⟩ => ⟨S4x8x2x8x2048, .bf16⟩
  | _, _ => ⟨S512x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) (c10_i32_129 : BitVec 32) (c6_i32_130 : BitVec 32) (c2_i32_131 : BitVec 32) (c3_i32_132 : BitVec 32) (c7_i32_133 : BitVec 32) (c11_i32_134 : BitVec 32) (c15_i32_135 : BitVec 32) (c12_i32_136 : BitVec 32) (c8_i32_137 : BitVec 32) (c4_i32_138 : BitVec 32) (c0_i32_139 : BitVec 32) (c1_i32_140 : BitVec 32) (c5_i32_141 : BitVec 32) (c9_i32_142 : BitVec 32) (c13_i32_143 : BitVec 32) (c14_i32_144 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let v283 : BitVec 32 := Scalar.muli v4 c10_i32_129
  let c1_i32_0 : BitVec 32 := 1#32
  let v5 : BitVec 1 := Scalar.cmpi .eq v2 c1_i32_0
  let v6 : BitVec 32 := Scalar.extui v5
  let v284 : BitVec 32 := Scalar.muli v6 c6_i32_130
  let v285 : BitVec 32 := Scalar.addi v283 v284
  let c5_i32 : BitVec 32 := 5#32
  let v7 : BitVec 1 := Scalar.cmpi .eq v2 c5_i32
  let v8 : BitVec 32 := Scalar.extui v7
  let v286 : BitVec 32 := Scalar.muli v8 c2_i32_131
  let v287 : BitVec 32 := Scalar.addi v285 v286
  let c9_i32 : BitVec 32 := 9#32
  let v9 : BitVec 1 := Scalar.cmpi .eq v2 c9_i32
  let v10 : BitVec 32 := Scalar.extui v9
  let v288 : BitVec 32 := Scalar.muli v10 c3_i32_132
  let v289 : BitVec 32 := Scalar.addi v287 v288
  let c13_i32 : BitVec 32 := 13#32
  let v11 : BitVec 1 := Scalar.cmpi .eq v2 c13_i32
  let v12 : BitVec 32 := Scalar.extui v11
  let v290 : BitVec 32 := Scalar.muli v12 c7_i32_133
  let v291 : BitVec 32 := Scalar.addi v289 v290
  let c14_i32 : BitVec 32 := 14#32
  let v13 : BitVec 1 := Scalar.cmpi .eq v2 c14_i32
  let v14 : BitVec 32 := Scalar.extui v13
  let v292 : BitVec 32 := Scalar.muli v14 c11_i32_134
  let v293 : BitVec 32 := Scalar.addi v291 v292
  let c10_i32 : BitVec 32 := 10#32
  let v15 : BitVec 1 := Scalar.cmpi .eq v2 c10_i32
  let v16 : BitVec 32 := Scalar.extui v15
  let v294 : BitVec 32 := Scalar.muli v16 c15_i32_135
  let v295 : BitVec 32 := Scalar.addi v293 v294
  let c6_i32 : BitVec 32 := 6#32
  let v17 : BitVec 1 := Scalar.cmpi .eq v2 c6_i32
  let v18 : BitVec 32 := Scalar.extui v17
  let v296 : BitVec 32 := Scalar.muli v18 c12_i32_136
  let v297 : BitVec 32 := Scalar.addi v295 v296
  let c2_i32 : BitVec 32 := 2#32
  let v19 : BitVec 1 := Scalar.cmpi .eq v2 c2_i32
  let v20 : BitVec 32 := Scalar.extui v19
  let v298 : BitVec 32 := Scalar.muli v20 c8_i32_137
  let v299 : BitVec 32 := Scalar.addi v297 v298
  let c3_i32 : BitVec 32 := 3#32
  let v21 : BitVec 1 := Scalar.cmpi .eq v2 c3_i32
  let v22 : BitVec 32 := Scalar.extui v21
  let v300 : BitVec 32 := Scalar.muli v22 c4_i32_138
  let v301 : BitVec 32 := Scalar.addi v299 v300
  let c7_i32 : BitVec 32 := 7#32
  let v23 : BitVec 1 := Scalar.cmpi .eq v2 c7_i32
  let v24 : BitVec 32 := Scalar.extui v23
  let v302 : BitVec 32 := Scalar.muli v24 c0_i32_139
  let v303 : BitVec 32 := Scalar.addi v301 v302
  let c11_i32 : BitVec 32 := 11#32
  let v25 : BitVec 1 := Scalar.cmpi .eq v2 c11_i32
  let v26 : BitVec 32 := Scalar.extui v25
  let v304 : BitVec 32 := Scalar.muli v26 c1_i32_140
  let v305 : BitVec 32 := Scalar.addi v303 v304
  let c15_i32 : BitVec 32 := 15#32
  let v27 : BitVec 1 := Scalar.cmpi .eq v2 c15_i32
  let v28 : BitVec 32 := Scalar.extui v27
  let v306 : BitVec 32 := Scalar.muli v28 c5_i32_141
  let v307 : BitVec 32 := Scalar.addi v305 v306
  let c12_i32 : BitVec 32 := 12#32
  let v29 : BitVec 1 := Scalar.cmpi .eq v2 c12_i32
  let v30 : BitVec 32 := Scalar.extui v29
  let v308 : BitVec 32 := Scalar.muli v30 c9_i32_142
  let v309 : BitVec 32 := Scalar.addi v307 v308
  let c8_i32 : BitVec 32 := 8#32
  let v31 : BitVec 1 := Scalar.cmpi .eq v2 c8_i32
  let v32 : BitVec 32 := Scalar.extui v31
  let v310 : BitVec 32 := Scalar.muli v32 c13_i32_143
  let v311 : BitVec 32 := Scalar.addi v309 v310
  let c4_i32 : BitVec 32 := 4#32
  let v33 : BitVec 1 := Scalar.cmpi .eq v2 c4_i32
  let v34 : BitVec 32 := Scalar.extui v33
  let v312 : BitVec 32 := Scalar.muli v34 c14_i32_144
  let v313 : BitVec 32 := Scalar.addi v311 v312
  let c32_i32 : BitVec 32 := 32#32
  let v599 : BitVec 32 := Scalar.muli v313 c32_i32
  let v600 : Index := Scalar.indexCast v599
  let c0_292 : Index := 0#32
  ![v600.toNat, 0]
def k0_off1_at (r : Fin 16) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 8 then
    if r.val < 4 then
      if r.val < 2 then
        if r.val < 1 then
          (10#32, 6#32, 2#32, 3#32, 7#32, 11#32, 15#32, 12#32, 8#32, 4#32, 0#32, 1#32, 5#32, 9#32, 13#32, 14#32)
        else
          (6#32, 2#32, 3#32, 7#32, 11#32, 15#32, 12#32, 8#32, 4#32, 0#32, 1#32, 5#32, 9#32, 13#32, 14#32, 10#32)
      else
        if r.val < 3 then
          (2#32, 3#32, 7#32, 11#32, 15#32, 12#32, 8#32, 4#32, 0#32, 1#32, 5#32, 9#32, 13#32, 14#32, 10#32, 6#32)
        else
          (3#32, 7#32, 11#32, 15#32, 12#32, 8#32, 4#32, 0#32, 1#32, 5#32, 9#32, 13#32, 14#32, 10#32, 6#32, 2#32)
    else
      if r.val < 6 then
        if r.val < 5 then
          (7#32, 11#32, 15#32, 12#32, 8#32, 4#32, 0#32, 1#32, 5#32, 9#32, 13#32, 14#32, 10#32, 6#32, 2#32, 3#32)
        else
          (11#32, 15#32, 12#32, 8#32, 4#32, 0#32, 1#32, 5#32, 9#32, 13#32, 14#32, 10#32, 6#32, 2#32, 3#32, 7#32)
      else
        if r.val < 7 then
          (15#32, 12#32, 8#32, 4#32, 0#32, 1#32, 5#32, 9#32, 13#32, 14#32, 10#32, 6#32, 2#32, 3#32, 7#32, 11#32)
        else
          (12#32, 8#32, 4#32, 0#32, 1#32, 5#32, 9#32, 13#32, 14#32, 10#32, 6#32, 2#32, 3#32, 7#32, 11#32, 15#32)
  else
    if r.val < 12 then
      if r.val < 10 then
        if r.val < 9 then
          (8#32, 4#32, 0#32, 1#32, 5#32, 9#32, 13#32, 14#32, 10#32, 6#32, 2#32, 3#32, 7#32, 11#32, 15#32, 12#32)
        else
          (4#32, 0#32, 1#32, 5#32, 9#32, 13#32, 14#32, 10#32, 6#32, 2#32, 3#32, 7#32, 11#32, 15#32, 12#32, 8#32)
      else
        if r.val < 11 then
          (0#32, 1#32, 5#32, 9#32, 13#32, 14#32, 10#32, 6#32, 2#32, 3#32, 7#32, 11#32, 15#32, 12#32, 8#32, 4#32)
        else
          (1#32, 5#32, 9#32, 13#32, 14#32, 10#32, 6#32, 2#32, 3#32, 7#32, 11#32, 15#32, 12#32, 8#32, 4#32, 0#32)
    else
      if r.val < 14 then
        if r.val < 13 then
          (5#32, 9#32, 13#32, 14#32, 10#32, 6#32, 2#32, 3#32, 7#32, 11#32, 15#32, 12#32, 8#32, 4#32, 0#32, 1#32)
        else
          (9#32, 13#32, 14#32, 10#32, 6#32, 2#32, 3#32, 7#32, 11#32, 15#32, 12#32, 8#32, 4#32, 0#32, 1#32, 5#32)
      else
        if r.val < 15 then
          (13#32, 14#32, 10#32, 6#32, 2#32, 3#32, 7#32, 11#32, 15#32, 12#32, 8#32, 4#32, 0#32, 1#32, 5#32, 9#32)
        else
          (14#32, 10#32, 6#32, 2#32, 3#32, 7#32, 11#32, 15#32, 12#32, 8#32, 4#32, 0#32, 1#32, 5#32, 9#32, 13#32)
def k0_dev1 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_386 : BitVec 32 := 1#32
  let v743 : BitVec 32 := Scalar.muli v96 c1_i32_386
  let v744 : BitVec 32 := Scalar.addi c0_i32_387 v743
  v744.toNat
def k0_dev2 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_389 : BitVec 32 := 1#32
  let v745 : BitVec 32 := Scalar.muli v65 c1_i32_389
  let v746 : BitVec 32 := Scalar.addi c0_i32_390 v745
  v746.toNat
def k0_dev3 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_403 : BitVec 32 := 1#32
  let v747 : BitVec 32 := Scalar.muli v65 c1_i32_403
  let v748 : BitVec 32 := Scalar.addi c0_i32_404 v747
  v748.toNat
def k0_dev4 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_420 : BitVec 32 := 1#32
  let v757 : BitVec 32 := Scalar.muli v65 c1_i32_420
  let v758 : BitVec 32 := Scalar.addi c0_i32_421 v757
  v758.toNat
def k0_dev5 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_437 : BitVec 32 := 1#32
  let v767 : BitVec 32 := Scalar.muli v96 c1_i32_437
  let v768 : BitVec 32 := Scalar.addi c0_i32_438 v767
  v768.toNat
def k0_dev6 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_454 : BitVec 32 := 1#32
  let v777 : BitVec 32 := Scalar.muli v96 c1_i32_454
  let v778 : BitVec 32 := Scalar.addi c0_i32_455 v777
  v778.toNat
def k0_dev7 (d0 : Dev nD) : Nat :=
  let c0_i32_472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_471 : BitVec 32 := 1#32
  let v787 : BitVec 32 := Scalar.muli v96 c1_i32_471
  let v788 : BitVec 32 := Scalar.addi c0_i32_472 v787
  v788.toNat
def k0_dev8 (d0 : Dev nD) : Nat :=
  let c0_i32_489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_488 : BitVec 32 := 1#32
  let v797 : BitVec 32 := Scalar.muli v96 c1_i32_488
  let v798 : BitVec 32 := Scalar.addi c0_i32_489 v797
  v798.toNat
def k0_dev9 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_505 : BitVec 32 := 1#32
  let v807 : BitVec 32 := Scalar.muli v65 c1_i32_505
  let v808 : BitVec 32 := Scalar.addi c0_i32_506 v807
  v808.toNat
def k0_dev10 (d0 : Dev nD) : Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_522 : BitVec 32 := 1#32
  let v817 : BitVec 32 := Scalar.muli v65 c1_i32_522
  let v818 : BitVec 32 := Scalar.addi c0_i32_523 v817
  v818.toNat
def k0_dev11 (d0 : Dev nD) : Nat :=
  let c0_i32_578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_577 : BitVec 32 := 1#32
  let v851 : BitVec 32 := Scalar.muli v65 c1_i32_577
  let v852 : BitVec 32 := Scalar.addi c0_i32_578 v851
  v852.toNat
def k0_dev12 (d0 : Dev nD) : Nat :=
  let c0_i32_625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_624 : BitVec 32 := 1#32
  let v878 : BitVec 32 := Scalar.muli v65 c1_i32_624
  let v879 : BitVec 32 := Scalar.addi c0_i32_625 v878
  v879.toNat
def k0_dev13 (d0 : Dev nD) : Nat :=
  let c0_i32_673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_672 : BitVec 32 := 1#32
  let v905 : BitVec 32 := Scalar.muli v96 c1_i32_672
  let v906 : BitVec 32 := Scalar.addi c0_i32_673 v905
  v906.toNat
def k0_dev14 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_719 : BitVec 32 := 1#32
  let v932 : BitVec 32 := Scalar.muli v96 c1_i32_719
  let v933 : BitVec 32 := Scalar.addi c0_i32_720 v932
  v933.toNat
def k0_dev15 (d0 : Dev nD) : Nat :=
  let c0_i32_767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_766 : BitVec 32 := 1#32
  let v959 : BitVec 32 := Scalar.muli v96 c1_i32_766
  let v960 : BitVec 32 := Scalar.addi c0_i32_767 v959
  v960.toNat
def k0_dev16 (d0 : Dev nD) : Nat :=
  let c0_i32_814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_813 : BitVec 32 := 1#32
  let v986 : BitVec 32 := Scalar.muli v96 c1_i32_813
  let v987 : BitVec 32 := Scalar.addi c0_i32_814 v986
  v987.toNat
def k0_dev17 (d0 : Dev nD) : Nat :=
  let c0_i32_861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_860 : BitVec 32 := 1#32
  let v1013 : BitVec 32 := Scalar.muli v65 c1_i32_860
  let v1014 : BitVec 32 := Scalar.addi c0_i32_861 v1013
  v1014.toNat
def k0_dev18 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_907 : BitVec 32 := 1#32
  let v1040 : BitVec 32 := Scalar.muli v65 c1_i32_907
  let v1041 : BitVec 32 := Scalar.addi c0_i32_908 v1040
  v1041.toNat
def k0_dev19 (d0 : Dev nD) : Nat :=
  let c0_i32_963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_962 : BitVec 32 := 1#32
  let v1074 : BitVec 32 := Scalar.muli v65 c1_i32_962
  let v1075 : BitVec 32 := Scalar.addi c0_i32_963 v1074
  v1075.toNat
def k0_dev20 (d0 : Dev nD) : Nat :=
  let c0_i32_1010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_1009 : BitVec 32 := 1#32
  let v1101 : BitVec 32 := Scalar.muli v65 c1_i32_1009
  let v1102 : BitVec 32 := Scalar.addi c0_i32_1010 v1101
  v1102.toNat
def k0_dev21 (d0 : Dev nD) : Nat :=
  let c0_i32_1058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_1057 : BitVec 32 := 1#32
  let v1128 : BitVec 32 := Scalar.muli v96 c1_i32_1057
  let v1129 : BitVec 32 := Scalar.addi c0_i32_1058 v1128
  v1129.toNat
def k0_dev22 (d0 : Dev nD) : Nat :=
  let c0_i32_1105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_1104 : BitVec 32 := 1#32
  let v1155 : BitVec 32 := Scalar.muli v96 c1_i32_1104
  let v1156 : BitVec 32 := Scalar.addi c0_i32_1105 v1155
  v1156.toNat
def k0_dev23 (d0 : Dev nD) : Nat :=
  let c0_i32_1152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_1151 : BitVec 32 := 1#32
  let v1182 : BitVec 32 := Scalar.muli v96 c1_i32_1151
  let v1183 : BitVec 32 := Scalar.addi c0_i32_1152 v1182
  v1183.toNat
def k0_dev24 (d0 : Dev nD) : Nat :=
  let c0_i32_1199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_1198 : BitVec 32 := 1#32
  let v1209 : BitVec 32 := Scalar.muli v96 c1_i32_1198
  let v1210 : BitVec 32 := Scalar.addi c0_i32_1199 v1209
  v1210.toNat
def k0_dev25 (d0 : Dev nD) : Nat :=
  let c0_i32_1246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_1245 : BitVec 32 := 1#32
  let v1236 : BitVec 32 := Scalar.muli v65 c1_i32_1245
  let v1237 : BitVec 32 := Scalar.addi c0_i32_1246 v1236
  v1237.toNat
def k0_dev26 (d0 : Dev nD) : Nat :=
  let c0_i32_1293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_1292 : BitVec 32 := 1#32
  let v1263 : BitVec 32 := Scalar.muli v65 c1_i32_1292
  let v1264 : BitVec 32 := Scalar.addi c0_i32_1293 v1263
  v1264.toNat
def k0_dev27 (d0 : Dev nD) : Nat :=
  let c0_i32_1348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_1347 : BitVec 32 := 1#32
  let v1297 : BitVec 32 := Scalar.muli v65 c1_i32_1347
  let v1298 : BitVec 32 := Scalar.addi c0_i32_1348 v1297
  v1298.toNat
def k0_dev28 (d0 : Dev nD) : Nat :=
  let c0_i32_1395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_1394 : BitVec 32 := 1#32
  let v1324 : BitVec 32 := Scalar.muli v65 c1_i32_1394
  let v1325 : BitVec 32 := Scalar.addi c0_i32_1395 v1324
  v1325.toNat
def k0_dev29 (d0 : Dev nD) : Nat :=
  let c0_i32_1443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_1442 : BitVec 32 := 1#32
  let v1351 : BitVec 32 := Scalar.muli v96 c1_i32_1442
  let v1352 : BitVec 32 := Scalar.addi c0_i32_1443 v1351
  v1352.toNat
def k0_dev30 (d0 : Dev nD) : Nat :=
  let c0_i32_1490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_1489 : BitVec 32 := 1#32
  let v1378 : BitVec 32 := Scalar.muli v96 c1_i32_1489
  let v1379 : BitVec 32 := Scalar.addi c0_i32_1490 v1378
  v1379.toNat
def k0_dev31 (d0 : Dev nD) : Nat :=
  let c0_i32_1537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_1536 : BitVec 32 := 1#32
  let v1405 : BitVec 32 := Scalar.muli v96 c1_i32_1536
  let v1406 : BitVec 32 := Scalar.addi c0_i32_1537 v1405
  v1406.toNat
def k0_dev32 (d0 : Dev nD) : Nat :=
  let c0_i32_1584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_1583 : BitVec 32 := 1#32
  let v1432 : BitVec 32 := Scalar.muli v96 c1_i32_1583
  let v1433 : BitVec 32 := Scalar.addi c0_i32_1584 v1432
  v1433.toNat
def k0_dev33 (d0 : Dev nD) : Nat :=
  let c0_i32_1631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_1630 : BitVec 32 := 1#32
  let v1459 : BitVec 32 := Scalar.muli v65 c1_i32_1630
  let v1460 : BitVec 32 := Scalar.addi c0_i32_1631 v1459
  v1460.toNat
def k0_dev34 (d0 : Dev nD) : Nat :=
  let c0_i32_1678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_1677 : BitVec 32 := 1#32
  let v1486 : BitVec 32 := Scalar.muli v65 c1_i32_1677
  let v1487 : BitVec 32 := Scalar.addi c0_i32_1678 v1486
  v1487.toNat
def k0_dev35 (d0 : Dev nD) : Nat :=
  let c0_i32_1726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_1725 : BitVec 32 := 1#32
  let v1513 : BitVec 32 := Scalar.muli v65 c1_i32_1725
  let v1514 : BitVec 32 := Scalar.addi c0_i32_1726 v1513
  v1514.toNat
def k0_dev36 (d0 : Dev nD) : Nat :=
  let c0_i32_1773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_1772 : BitVec 32 := 1#32
  let v1540 : BitVec 32 := Scalar.muli v65 c1_i32_1772
  let v1541 : BitVec 32 := Scalar.addi c0_i32_1773 v1540
  v1541.toNat
def k0_dev37 (d0 : Dev nD) : Nat :=
  let c0_i32_1821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_1820 : BitVec 32 := 1#32
  let v1567 : BitVec 32 := Scalar.muli v96 c1_i32_1820
  let v1568 : BitVec 32 := Scalar.addi c0_i32_1821 v1567
  v1568.toNat
def k0_dev38 (d0 : Dev nD) : Nat :=
  let c0_i32_1868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_1867 : BitVec 32 := 1#32
  let v1594 : BitVec 32 := Scalar.muli v96 c1_i32_1867
  let v1595 : BitVec 32 := Scalar.addi c0_i32_1868 v1594
  v1595.toNat
def k0_dev39 (d0 : Dev nD) : Nat :=
  let c0_i32_1915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_1914 : BitVec 32 := 1#32
  let v1621 : BitVec 32 := Scalar.muli v96 c1_i32_1914
  let v1622 : BitVec 32 := Scalar.addi c0_i32_1915 v1621
  v1622.toNat
def k0_dev40 (d0 : Dev nD) : Nat :=
  let c0_i32_1962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_1961 : BitVec 32 := 1#32
  let v1648 : BitVec 32 := Scalar.muli v96 c1_i32_1961
  let v1649 : BitVec 32 := Scalar.addi c0_i32_1962 v1648
  v1649.toNat
def k0_dev41 (d0 : Dev nD) : Nat :=
  let c0_i32_2009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_2008 : BitVec 32 := 1#32
  let v1675 : BitVec 32 := Scalar.muli v65 c1_i32_2008
  let v1676 : BitVec 32 := Scalar.addi c0_i32_2009 v1675
  v1676.toNat
def k0_dev42 (d0 : Dev nD) : Nat :=
  let c0_i32_2056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_2055 : BitVec 32 := 1#32
  let v1702 : BitVec 32 := Scalar.muli v65 c1_i32_2055
  let v1703 : BitVec 32 := Scalar.addi c0_i32_2056 v1702
  v1703.toNat
def k0_dev43 (d0 : Dev nD) : Nat :=
  let c0_i32_2103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_2102 : BitVec 32 := 1#32
  let v1729 : BitVec 32 := Scalar.muli v65 c1_i32_2102
  let v1730 : BitVec 32 := Scalar.addi c0_i32_2103 v1729
  v1730.toNat
def k0_dev44 (d0 : Dev nD) : Nat :=
  let c0_i32_2150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_2149 : BitVec 32 := 1#32
  let v1756 : BitVec 32 := Scalar.muli v65 c1_i32_2149
  let v1757 : BitVec 32 := Scalar.addi c0_i32_2150 v1756
  v1757.toNat
def k0_dev45 (d0 : Dev nD) : Nat :=
  let c0_i32_2198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_2197 : BitVec 32 := 1#32
  let v1783 : BitVec 32 := Scalar.muli v96 c1_i32_2197
  let v1784 : BitVec 32 := Scalar.addi c0_i32_2198 v1783
  v1784.toNat
def k0_dev46 (d0 : Dev nD) : Nat :=
  let c0_i32_2245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_2244 : BitVec 32 := 1#32
  let v1810 : BitVec 32 := Scalar.muli v96 c1_i32_2244
  let v1811 : BitVec 32 := Scalar.addi c0_i32_2245 v1810
  v1811.toNat
def k0_dev47 (d0 : Dev nD) : Nat :=
  let c0_i32_2292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_2291 : BitVec 32 := 1#32
  let v1837 : BitVec 32 := Scalar.muli v96 c1_i32_2291
  let v1838 : BitVec 32 := Scalar.addi c0_i32_2292 v1837
  v1838.toNat
def k0_dev48 (d0 : Dev nD) : Nat :=
  let c0_i32_2339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_2338 : BitVec 32 := 1#32
  let v1864 : BitVec 32 := Scalar.muli v96 c1_i32_2338
  let v1865 : BitVec 32 := Scalar.addi c0_i32_2339 v1864
  v1865.toNat
def k0_dev49 (d0 : Dev nD) : Nat :=
  let c0_i32_2386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_2385 : BitVec 32 := 1#32
  let v1891 : BitVec 32 := Scalar.muli v65 c1_i32_2385
  let v1892 : BitVec 32 := Scalar.addi c0_i32_2386 v1891
  v1892.toNat
def k0_dev50 (d0 : Dev nD) : Nat :=
  let c0_i32_2433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_2432 : BitVec 32 := 1#32
  let v1918 : BitVec 32 := Scalar.muli v65 c1_i32_2432
  let v1919 : BitVec 32 := Scalar.addi c0_i32_2433 v1918
  v1919.toNat
def k0_dev51 (d0 : Dev nD) : Nat :=
  let c0_i32_2480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_2479 : BitVec 32 := 1#32
  let v1945 : BitVec 32 := Scalar.muli v65 c1_i32_2479
  let v1946 : BitVec 32 := Scalar.addi c0_i32_2480 v1945
  v1946.toNat
def k0_dev52 (d0 : Dev nD) : Nat :=
  let c0_i32_2527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_2526 : BitVec 32 := 1#32
  let v1972 : BitVec 32 := Scalar.muli v65 c1_i32_2526
  let v1973 : BitVec 32 := Scalar.addi c0_i32_2527 v1972
  v1973.toNat
def k0_dev53 (d0 : Dev nD) : Nat :=
  let c0_i32_2575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_2574 : BitVec 32 := 1#32
  let v1999 : BitVec 32 := Scalar.muli v96 c1_i32_2574
  let v2000 : BitVec 32 := Scalar.addi c0_i32_2575 v1999
  v2000.toNat
def k0_dev54 (d0 : Dev nD) : Nat :=
  let c0_i32_2622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_2621 : BitVec 32 := 1#32
  let v2026 : BitVec 32 := Scalar.muli v96 c1_i32_2621
  let v2027 : BitVec 32 := Scalar.addi c0_i32_2622 v2026
  v2027.toNat
def k0_dev55 (d0 : Dev nD) : Nat :=
  let c0_i32_2669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_2668 : BitVec 32 := 1#32
  let v2053 : BitVec 32 := Scalar.muli v96 c1_i32_2668
  let v2054 : BitVec 32 := Scalar.addi c0_i32_2669 v2053
  v2054.toNat
def k0_dev56 (d0 : Dev nD) : Nat :=
  let c0_i32_2716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_2715 : BitVec 32 := 1#32
  let v2080 : BitVec 32 := Scalar.muli v96 c1_i32_2715
  let v2081 : BitVec 32 := Scalar.addi c0_i32_2716 v2080
  v2081.toNat
def k0_dev57 (d0 : Dev nD) : Nat :=
  let c0_i32_2763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_2762 : BitVec 32 := 1#32
  let v2107 : BitVec 32 := Scalar.muli v65 c1_i32_2762
  let v2108 : BitVec 32 := Scalar.addi c0_i32_2763 v2107
  v2108.toNat
def k0_dev58 (d0 : Dev nD) : Nat :=
  let c0_i32_2810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_2809 : BitVec 32 := 1#32
  let v2134 : BitVec 32 := Scalar.muli v65 c1_i32_2809
  let v2135 : BitVec 32 := Scalar.addi c0_i32_2810 v2134
  v2135.toNat
def k0_dev59 (d0 : Dev nD) : Nat :=
  let c0_i32_2857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_2856 : BitVec 32 := 1#32
  let v2161 : BitVec 32 := Scalar.muli v65 c1_i32_2856
  let v2162 : BitVec 32 := Scalar.addi c0_i32_2857 v2161
  v2162.toNat
def k0_dev60 (d0 : Dev nD) : Nat :=
  let c0_i32_2904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c1_i32_1 : BitVec 32 := 1#32
  let v35 : BitVec 32 := Scalar.muli v4 c1_i32_1
  let c1_i32_0 : BitVec 32 := 1#32
  let v5 : BitVec 1 := Scalar.cmpi .eq v2 c1_i32_0
  let v6 : BitVec 32 := Scalar.extui v5
  let c5_i32_2 : BitVec 32 := 5#32
  let v36 : BitVec 32 := Scalar.muli v6 c5_i32_2
  let v37 : BitVec 32 := Scalar.addi v35 v36
  let c5_i32 : BitVec 32 := 5#32
  let v7 : BitVec 1 := Scalar.cmpi .eq v2 c5_i32
  let v8 : BitVec 32 := Scalar.extui v7
  let c9_i32_3 : BitVec 32 := 9#32
  let v38 : BitVec 32 := Scalar.muli v8 c9_i32_3
  let v39 : BitVec 32 := Scalar.addi v37 v38
  let c9_i32 : BitVec 32 := 9#32
  let v9 : BitVec 1 := Scalar.cmpi .eq v2 c9_i32
  let v10 : BitVec 32 := Scalar.extui v9
  let c13_i32_4 : BitVec 32 := 13#32
  let v40 : BitVec 32 := Scalar.muli v10 c13_i32_4
  let v41 : BitVec 32 := Scalar.addi v39 v40
  let c13_i32 : BitVec 32 := 13#32
  let v11 : BitVec 1 := Scalar.cmpi .eq v2 c13_i32
  let v12 : BitVec 32 := Scalar.extui v11
  let c14_i32_5 : BitVec 32 := 14#32
  let v42 : BitVec 32 := Scalar.muli v12 c14_i32_5
  let v43 : BitVec 32 := Scalar.addi v41 v42
  let c14_i32 : BitVec 32 := 14#32
  let v13 : BitVec 1 := Scalar.cmpi .eq v2 c14_i32
  let v14 : BitVec 32 := Scalar.extui v13
  let c10_i32_6 : BitVec 32 := 10#32
  let v44 : BitVec 32 := Scalar.muli v14 c10_i32_6
  let v45 : BitVec 32 := Scalar.addi v43 v44
  let c10_i32 : BitVec 32 := 10#32
  let v15 : BitVec 1 := Scalar.cmpi .eq v2 c10_i32
  let v16 : BitVec 32 := Scalar.extui v15
  let c6_i32_7 : BitVec 32 := 6#32
  let v46 : BitVec 32 := Scalar.muli v16 c6_i32_7
  let v47 : BitVec 32 := Scalar.addi v45 v46
  let c6_i32 : BitVec 32 := 6#32
  let v17 : BitVec 1 := Scalar.cmpi .eq v2 c6_i32
  let v18 : BitVec 32 := Scalar.extui v17
  let c2_i32_8 : BitVec 32 := 2#32
  let v48 : BitVec 32 := Scalar.muli v18 c2_i32_8
  let v49 : BitVec 32 := Scalar.addi v47 v48
  let c2_i32 : BitVec 32 := 2#32
  let v19 : BitVec 1 := Scalar.cmpi .eq v2 c2_i32
  let v20 : BitVec 32 := Scalar.extui v19
  let c3_i32_9 : BitVec 32 := 3#32
  let v50 : BitVec 32 := Scalar.muli v20 c3_i32_9
  let v51 : BitVec 32 := Scalar.addi v49 v50
  let c3_i32 : BitVec 32 := 3#32
  let v21 : BitVec 1 := Scalar.cmpi .eq v2 c3_i32
  let v22 : BitVec 32 := Scalar.extui v21
  let c7_i32_10 : BitVec 32 := 7#32
  let v52 : BitVec 32 := Scalar.muli v22 c7_i32_10
  let v53 : BitVec 32 := Scalar.addi v51 v52
  let c7_i32 : BitVec 32 := 7#32
  let v23 : BitVec 1 := Scalar.cmpi .eq v2 c7_i32
  let v24 : BitVec 32 := Scalar.extui v23
  let c11_i32_11 : BitVec 32 := 11#32
  let v54 : BitVec 32 := Scalar.muli v24 c11_i32_11
  let v55 : BitVec 32 := Scalar.addi v53 v54
  let c11_i32 : BitVec 32 := 11#32
  let v25 : BitVec 1 := Scalar.cmpi .eq v2 c11_i32
  let v26 : BitVec 32 := Scalar.extui v25
  let c15_i32_12 : BitVec 32 := 15#32
  let v56 : BitVec 32 := Scalar.muli v26 c15_i32_12
  let v57 : BitVec 32 := Scalar.addi v55 v56
  let c15_i32 : BitVec 32 := 15#32
  let v27 : BitVec 1 := Scalar.cmpi .eq v2 c15_i32
  let v28 : BitVec 32 := Scalar.extui v27
  let c12_i32_13 : BitVec 32 := 12#32
  let v58 : BitVec 32 := Scalar.muli v28 c12_i32_13
  let v59 : BitVec 32 := Scalar.addi v57 v58
  let c12_i32 : BitVec 32 := 12#32
  let v29 : BitVec 1 := Scalar.cmpi .eq v2 c12_i32
  let v30 : BitVec 32 := Scalar.extui v29
  let c8_i32_14 : BitVec 32 := 8#32
  let v60 : BitVec 32 := Scalar.muli v30 c8_i32_14
  let v61 : BitVec 32 := Scalar.addi v59 v60
  let c8_i32 : BitVec 32 := 8#32
  let v31 : BitVec 1 := Scalar.cmpi .eq v2 c8_i32
  let v32 : BitVec 32 := Scalar.extui v31
  let c4_i32_15 : BitVec 32 := 4#32
  let v62 : BitVec 32 := Scalar.muli v32 c4_i32_15
  let v63 : BitVec 32 := Scalar.addi v61 v62
  let c4_i32 : BitVec 32 := 4#32
  let v33 : BitVec 1 := Scalar.cmpi .eq v2 c4_i32
  let v34 : BitVec 32 := Scalar.extui v33
  let c0_i32_16 : BitVec 32 := 0#32
  let v64 : BitVec 32 := Scalar.muli v34 c0_i32_16
  let v65 : BitVec 32 := Scalar.addi v63 v64
  let c1_i32_2903 : BitVec 32 := 1#32
  let v2188 : BitVec 32 := Scalar.muli v65 c1_i32_2903
  let v2189 : BitVec 32 := Scalar.addi c0_i32_2904 v2188
  v2189.toNat
def k0_dev61 (d0 : Dev nD) : Nat :=
  let c0_i32_2987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_2986 : BitVec 32 := 1#32
  let v2231 : BitVec 32 := Scalar.muli v96 c1_i32_2986
  let v2232 : BitVec 32 := Scalar.addi c0_i32_2987 v2231
  v2232.toNat
def k0_dev62 (d0 : Dev nD) : Nat :=
  let c0_i32_3034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let c4_i32_17 : BitVec 32 := 4#32
  let v66 : BitVec 32 := Scalar.muli v4 c4_i32_17
  let c1_i32_0 : BitVec 32 := 1#32
  let v5 : BitVec 1 := Scalar.cmpi .eq v2 c1_i32_0
  let v6 : BitVec 32 := Scalar.extui v5
  let c0_i32_18 : BitVec 32 := 0#32
  let v67 : BitVec 32 := Scalar.muli v6 c0_i32_18
  let v68 : BitVec 32 := Scalar.addi v66 v67
  let c5_i32 : BitVec 32 := 5#32
  let v7 : BitVec 1 := Scalar.cmpi .eq v2 c5_i32
  let v8 : BitVec 32 := Scalar.extui v7
  let c1_i32_19 : BitVec 32 := 1#32
  let v69 : BitVec 32 := Scalar.muli v8 c1_i32_19
  let v70 : BitVec 32 := Scalar.addi v68 v69
  let c9_i32 : BitVec 32 := 9#32
  let v9 : BitVec 1 := Scalar.cmpi .eq v2 c9_i32
  let v10 : BitVec 32 := Scalar.extui v9
  let c5_i32_20 : BitVec 32 := 5#32
  let v71 : BitVec 32 := Scalar.muli v10 c5_i32_20
  let v72 : BitVec 32 := Scalar.addi v70 v71
  let c13_i32 : BitVec 32 := 13#32
  let v11 : BitVec 1 := Scalar.cmpi .eq v2 c13_i32
  let v12 : BitVec 32 := Scalar.extui v11
  let c9_i32_21 : BitVec 32 := 9#32
  let v73 : BitVec 32 := Scalar.muli v12 c9_i32_21
  let v74 : BitVec 32 := Scalar.addi v72 v73
  let c14_i32 : BitVec 32 := 14#32
  let v13 : BitVec 1 := Scalar.cmpi .eq v2 c14_i32
  let v14 : BitVec 32 := Scalar.extui v13
  let c13_i32_22 : BitVec 32 := 13#32
  let v75 : BitVec 32 := Scalar.muli v14 c13_i32_22
  let v76 : BitVec 32 := Scalar.addi v74 v75
  let c10_i32 : BitVec 32 := 10#32
  let v15 : BitVec 1 := Scalar.cmpi .eq v2 c10_i32
  let v16 : BitVec 32 := Scalar.extui v15
  let c14_i32_23 : BitVec 32 := 14#32
  let v77 : BitVec 32 := Scalar.muli v16 c14_i32_23
  let v78 : BitVec 32 := Scalar.addi v76 v77
  let c6_i32 : BitVec 32 := 6#32
  let v17 : BitVec 1 := Scalar.cmpi .eq v2 c6_i32
  let v18 : BitVec 32 := Scalar.extui v17
  let c10_i32_24 : BitVec 32 := 10#32
  let v79 : BitVec 32 := Scalar.muli v18 c10_i32_24
  let v80 : BitVec 32 := Scalar.addi v78 v79
  let c2_i32 : BitVec 32 := 2#32
  let v19 : BitVec 1 := Scalar.cmpi .eq v2 c2_i32
  let v20 : BitVec 32 := Scalar.extui v19
  let c6_i32_25 : BitVec 32 := 6#32
  let v81 : BitVec 32 := Scalar.muli v20 c6_i32_25
  let v82 : BitVec 32 := Scalar.addi v80 v81
  let c3_i32 : BitVec 32 := 3#32
  let v21 : BitVec 1 := Scalar.cmpi .eq v2 c3_i32
  let v22 : BitVec 32 := Scalar.extui v21
  let c2_i32_26 : BitVec 32 := 2#32
  let v83 : BitVec 32 := Scalar.muli v22 c2_i32_26
  let v84 : BitVec 32 := Scalar.addi v82 v83
  let c7_i32 : BitVec 32 := 7#32
  let v23 : BitVec 1 := Scalar.cmpi .eq v2 c7_i32
  let v24 : BitVec 32 := Scalar.extui v23
  let c3_i32_27 : BitVec 32 := 3#32
  let v85 : BitVec 32 := Scalar.muli v24 c3_i32_27
  let v86 : BitVec 32 := Scalar.addi v84 v85
  let c11_i32 : BitVec 32 := 11#32
  let v25 : BitVec 1 := Scalar.cmpi .eq v2 c11_i32
  let v26 : BitVec 32 := Scalar.extui v25
  let c7_i32_28 : BitVec 32 := 7#32
  let v87 : BitVec 32 := Scalar.muli v26 c7_i32_28
  let v88 : BitVec 32 := Scalar.addi v86 v87
  let c15_i32 : BitVec 32 := 15#32
  let v27 : BitVec 1 := Scalar.cmpi .eq v2 c15_i32
  let v28 : BitVec 32 := Scalar.extui v27
  let c11_i32_29 : BitVec 32 := 11#32
  let v89 : BitVec 32 := Scalar.muli v28 c11_i32_29
  let v90 : BitVec 32 := Scalar.addi v88 v89
  let c12_i32 : BitVec 32 := 12#32
  let v29 : BitVec 1 := Scalar.cmpi .eq v2 c12_i32
  let v30 : BitVec 32 := Scalar.extui v29
  let c15_i32_30 : BitVec 32 := 15#32
  let v91 : BitVec 32 := Scalar.muli v30 c15_i32_30
  let v92 : BitVec 32 := Scalar.addi v90 v91
  let c8_i32 : BitVec 32 := 8#32
  let v31 : BitVec 1 := Scalar.cmpi .eq v2 c8_i32
  let v32 : BitVec 32 := Scalar.extui v31
  let c12_i32_31 : BitVec 32 := 12#32
  let v93 : BitVec 32 := Scalar.muli v32 c12_i32_31
  let v94 : BitVec 32 := Scalar.addi v92 v93
  let c4_i32 : BitVec 32 := 4#32
  let v33 : BitVec 1 := Scalar.cmpi .eq v2 c4_i32
  let v34 : BitVec 32 := Scalar.extui v33
  let c8_i32_32 : BitVec 32 := 8#32
  let v95 : BitVec 32 := Scalar.muli v34 c8_i32_32
  let v96 : BitVec 32 := Scalar.addi v94 v95
  let c1_i32_3033 : BitVec 32 := 1#32
  let v2258 : BitVec 32 := Scalar.muli v96 c1_i32_3033
  let v2259 : BitVec 32 := Scalar.addi c0_i32_3034 v2258
  v2259.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x512 : Shape := ⟨2, ![8192, 512]⟩
abbrev S8192x2048 : Shape := ⟨2, ![8192, 2048]⟩
abbrev S512x8192 : Shape := ⟨2, ![512, 8192]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S512x8192, .f32⟩
  | .hbm, ⟨3, _⟩ => ⟨S512x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Base.lean ====
/-
The ring, the memory references and the semaphores of the reduce-scatter kernel.

Sixteen devices form a ring.  Four streams of messages travel round it: streams 0 and 3 to the next device,
streams 1 and 2 to the previous one.  Streams 0 and 2 make eight hops, streams 1 and 3 seven.  Each hop carries two
messages of 8 rows, so a message is named by a triple (stream, hop, part), a `Slot`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Stream

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The ring -/

/-- The device at place `n` of the ring. -/
def ringAt (n : ℕ) : Dev nD :=
  (![0, 1, 5, 9, 13, 14, 10, 6, 2, 3, 7, 11, 15, 12, 8, 4] : Fin 16 → Dev nD) ⟨n % 16, Nat.mod_lt _ (by decide)⟩

/-- The place of a device in the ring. -/
def pos (c : Dev nD) : ℕ :=
  (![0, 1, 8, 9, 15, 2, 7, 10, 14, 3, 6, 11, 13, 4, 5, 12] : Fin 16 → ℕ) ⟨c.val, c.isLt⟩

def nxt (c : Dev nD) : Dev nD := ringAt (pos c + 1)
def prv (c : Dev nD) : Dev nD := ringAt (pos c + 15)

theorem prv_nxt (c : Dev nD) : prv (nxt c) = c := by revert c; decide
theorem nxt_prv (c : Dev nD) : nxt (prv c) = c := by revert c; decide
theorem nxt_ne_prv (c : Dev nD) : nxt c ≠ prv c := by revert c; decide
theorem ringAt_pos (c : Dev nD) : ringAt (pos c) = c := by revert c; decide
theorem pos_nxt (c : Dev nD) : pos (nxt c) = (pos c + 1) % 16 := by revert c; decide
theorem pos_prv (c : Dev nD) : pos (prv c) = (pos c + 15) % 16 := by revert c; decide
theorem pos_lt (c : Dev nD) : pos c < 16 := by revert c; decide

/-- Going one place up the ring permutes the devices. -/
def ringStep : Dev nD ≃ Dev nD := ⟨nxt, prv, prv_nxt, nxt_prv⟩

/-! ## The messages -/

abbrev Slot : Type := Fin 4 × Fin 8 × Fin 2

/-- Streams 0 and 3 travel to the next device. -/
def right (t : Fin 4) : Bool := t.val == 0 || t.val == 3
/-- The messages the kernel sends: streams 1 and 3 stop after seven hops. -/
def used (i : Slot) : Bool := i.1.val % 2 == 0 || i.2.1.val < 7

/-- Where device `c` sends the messages of stream `t`, and where it receives them from. -/
def tgt (c : Dev nD) (t : Fin 4) : Dev nD := if right t then nxt c else prv c
def src (c : Dev nD) (t : Fin 4) : Dev nD := if right t then prv c else nxt c

theorem src_tgt (c : Dev nD) (t : Fin 4) : src (tgt c t) t = c := by revert c t; decide
theorem tgt_src (c : Dev nD) (t : Fin 4) : tgt (src c t) t = c := by revert c t; decide

/-! ## The memory references -/

theorem inbC : ∀ i : Slot, ∀ a, (![i.1.val, i.2.1.val, i.2.2.val, 0, 0] : Fin 5 → ℕ) a + S1x1x1x8x2048.size a ≤ S4x8x2x8x2048.size a := by decide
theorem inbH : ∀ (t : Fin 4) (s : Fin 2), ∀ a, (![t.val, s.val, 0, 0] : Fin 4 → ℕ) a + S1x1x8x2048.size a ≤ S4x2x8x2048.size a := by decide
theorem inbS : ∀ i : Slot, ∀ a, (![i.1.val, i.2.1.val, i.2.2.val] : Fin 3 → ℕ) a + S1x1x1.size a ≤ S4x8x2.size a := by decide

abbrev rC (i : Slot) : Rect S4x8x2x8x2048 := Rect.unit (s := S4x8x2x8x2048) ![i.1.val, i.2.1.val, i.2.2.val, 0, 0] S1x1x1x8x2048.size (inbC i)
abbrev rH (t : Fin 4) (s : Fin 2) : Rect S4x2x8x2048 := Rect.unit (s := S4x2x8x2048) ![t.val, s.val, 0, 0] S1x1x8x2048.size (inbH t s)
abbrev rS (i : Slot) : Rect S4x8x2 := Rect.unit (s := S4x8x2) ![i.1.val, i.2.1.val, i.2.2.val] S1x1x1.size (inbS i)

abbrev xM : Memref sig .tc .vmem S512x512 .f32 := Memref.whole cc0_stg0_0
abbrev dyM : Memref sig .tc .vmem S512x2048 .f32 := Memref.whole cc0_stg1_0
abbrev outM : Memref sig .tc .vmem S32x2048 .f32 := Memref.whole cc0_stg2_0
abbrev xtM : Memref sig .tc .vmem S512x512 .f32 := Memref.whole cc0_scratch0
abbrev xpM : Memref sig .tc .vmem S512x512 .f32 := Memref.whole cc0_scratch1
abbrev accM : Memref sig .tc .vmem S512x2048 .f32 := Memref.whole cc0_scratch2
abbrev headM : Memref sig .tc .vmem S4x2x8x2048 .bf16 := Memref.whole cc0_scratch3
abbrev commM : Memref sig .tc .vmem S4x8x2x8x2048 .bf16 := Memref.whole cc0_scratch4

/-- The landing place of message `i`, and the place the first message of stream `t` leaves from. -/
abbrev cS (i : Slot) : Memref sig .tc .vmem S8x2048 .bf16 :=
  (commM.slice (rC i) (fun _ => rfl)).squeeze S8x2048 squeezes_S1x1x1x8x2048_S8x2048
abbrev hS (t : Fin 4) (s : Fin 2) : Memref sig .tc .vmem S8x2048 .bf16 :=
  (headM.slice (rH t s) (fun _ => rfl)).squeeze S8x2048 squeezes_S1x1x8x2048_S8x2048

/-! ## The semaphores -/

abbrev sendS (i : Slot) : DmaSem sig := ((cc0_scratch5.slice (rS i)).squeeze S_ squeezes_S1x1x1_S_).sem
abbrev recvS (i : Slot) : DmaSem sig := ((cc0_scratch6.slice (rS i)).squeeze S_ squeezes_S1x1x1_S_).sem
abbrev barS : Sem sig := (SemArray.scalar (sig.barrier 0 rfl) : Sems sig S_).sem

theorem sendS_val : ∀ i : Slot, (sendS i).val = 3 + (16 * i.1.val + 2 * i.2.1.val + i.2.2.val) := by decide +kernel
theorem recvS_val : ∀ i : Slot, (recvS i).val = 67 + (16 * i.1.val + 2 * i.2.1.val + i.2.2.val) := by decide +kernel

/-- A semaphore of the protocol: the barrier, or a message's send or receive semaphore. -/
abbrev Cell : Type := Option (Bool × Slot)

abbrev csem : Cell → SemLoc sig
  | none => .reg barS
  | some (false, i) => .dma (sendS i)
  | some (true, i) => .dma (recvS i)

abbrev kcell (ck : Dev nD × Cell) : GSem nD τ sig := ((ck.1 : Thread nD τ), csem ck.2)
abbrev barCell (c : Dev nD) : GSem nD τ sig := ((c : Thread nD τ), .reg barS)
abbrev sendCell (c : Dev nD) (i : Slot) : GSem nD τ sig := ((c : Thread nD τ), .dma (sendS i))
abbrev recvCell (c : Dev nD) (i : Slot) : GSem nD τ sig := ((c : Thread nD τ), .dma (recvS i))

def slotOf (n : ℕ) : Slot :=
  (⟨n / 16 % 4, Nat.mod_lt _ (by decide)⟩, ⟨n / 2 % 8, Nat.mod_lt _ (by decide)⟩, ⟨n % 2, Nat.mod_lt _ (by decide)⟩)

theorem slotOf_eq : ∀ i : Slot, slotOf (16 * i.1.val + 2 * i.2.1.val + i.2.2.val) = i := by decide

/-- Which semaphore of the protocol this is. -/
def cellOfSem : SemLoc sig → Option Cell
  | .reg s => if s = barS then some none else none
  | .dma q => if q.val < 3 then none else if q.val < 67 then some (some (false, slotOf (q.val - 3))) else some (some (true, slotOf (q.val - 67)))

theorem cellOfSem_bar : cellOfSem (.reg barS) = some none := by unfold cellOfSem; exact if_pos rfl
theorem cellOfSem_send (i : Slot) : cellOfSem (.dma (sendS i)) = some (some (false, i)) := by
  have h := sendS_val i
  have h1 := i.1.isLt; have h2 := i.2.1.isLt; have h3 := i.2.2.isLt
  unfold cellOfSem
  dsimp only
  rw [if_neg (by omega), if_pos (by omega), h, Nat.add_sub_cancel_left, slotOf_eq]
theorem cellOfSem_recv (i : Slot) : cellOfSem (.dma (recvS i)) = some (some (true, i)) := by
  have h := recvS_val i
  unfold cellOfSem
  dsimp only
  rw [if_neg (by omega), if_neg (by omega), h, Nat.add_sub_cancel_left, slotOf_eq]
theorem cellOfSem_csem : ∀ k : Cell, cellOfSem (csem k) = some k
  | none => cellOfSem_bar
  | some (false, i) => cellOfSem_send i
  | some (true, i) => cellOfSem_recv i

theorem csem_injective : Function.Injective csem := fun k k' h =>
  Option.some.inj ((cellOfSem_csem k).symm.trans ((congrArg cellOfSem h).trans (cellOfSem_csem k')))

theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The amount a message's transfer counts on its two semaphores. -/
abbrev N : ℕ := (cS (0, 0, 0)).view.dmaCredit
theorem N_pos : 0 < N := View.dmaCredit_pos _ (by decide)

end Cert.KernelIdeal.Stream

end
-- ==== Proof.KernelIdeal.Contents.lean ====
/-
What every buffer of the reduce-scatter kernel holds, as functions of the launch memory.

Device `c` transposes its `x` block, permutes the rows so that the rows of ring place `pos c + k + 6` stand at block
`k`, and multiplies by its `dy` block.  A message starts as 8 rows of the sender's product, rounded, and on each hop
the receiver adds 8 rows of its own product.  A result block of 8 rows is the device's own rows plus the last message
of one stream in each direction.
-/
module

public import proofs.«01_k».proof.Proof.KernelIdeal.Base
public import Idealize.ShloMosaic.Lib.ValueIdxCore

@[expose] public section

set_option maxRecDepth 16384

noncomputable section

namespace Cert.KernelIdeal.Stream

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

variable (m : (ℓ : Loc nD τ sig) → Buf (Elt F) ℓ)

/-- The two input blocks of device `c`. -/
def X (c : Dev nD) : FVec F S512x512 .f32 :=
  (win0_0.blk (0 : Fin 1)).view.read (Elt F) (m ((c : Thread nD τ).loc main_arg0))
def DY (c : Dev nD) : FVec F S512x2048 .f32 :=
  (win0_1.blk (0 : Fin 1)).view.read (Elt F) (m ((c : Thread nD τ).loc main_arg1))

/-- The transposed `x` block. -/
def XT (c : Dev nD) : FVec F S512x512 .f32 := k0_pay1 (X m c)

def row512 (n : ℕ) : Fin 512 := ⟨n % 512, Nat.mod_lt _ (by decide)⟩

/-- The 32 rows of the transposed block that become block `k` of the permuted one. -/
def xtRows (c : Dev nD) (k : ℕ) : FVec F S32x512 .f32 := fun j =>
  XT m c (ix2 (row512 (32 * (ringAt (pos c + k + 6)).val + (j 0).val)) (j 1))

/-- The transposed block with its 32-row blocks permuted. -/
def XP (c : Dev nD) : FVec F S512x512 .f32 := fun i =>
  xtRows m c ((i 0).val / 32) (ix2 ⟨(i 0).val % 32, Nat.mod_lt _ (by decide)⟩ (i 1))

def xpPiece (c : Dev nD) (p : ℕ) : FVec F S128x512 .f32 := fun j => XP m c (ix2 (row512 (128 * p + (j 0).val)) (j 1))

/-- One of the four 128-row pieces of the local product, and the whole product. -/
def accPiece (c : Dev nD) (p : ℕ) : FVec F S128x2048 .f32 := k0_pay18 (xpPiece m c p) (DY m c)
def ACC (c : Dev nD) : FVec F S512x2048 .f32 := fun i =>
  accPiece m c ((i 0).val / 128) (ix2 ⟨(i 0).val % 128, Nat.mod_lt _ (by decide)⟩ (i 1))

/-- Eight rows of the local product. -/
def rowsA (c : Dev nD) (o : ℕ) : FVec F S8x2048 .f32 := fun j => ACC m c (ix2 (row512 (o + (j 0).val)) (j 1))

/-- The first row of the product a stream starts with, and of the one added after hop `h`. -/
def hoff (t s : ℕ) : ℕ := (match t with | 0 => 64 | 1 => 96 | 2 => 80 | _ => 48) + 8 * s
def aoff (t h s : ℕ) : ℕ :=
  32 * ((match t with | 0 => 17 - h | 1 => 4 + h | 2 => 3 + h | _ => 16 - h) % 16) + 16 * (t / 2) + 8 * s

/-- The message a stream starts with, and a message with eight more rows added. -/
def hd (c : Dev nD) (t s : ℕ) : FVec F S8x2048 .bf16 := truncf .bf16 (rowsA m c (hoff t s)) bitsLt_bf16_f32
def addRows (v : FVec F S8x2048 .bf16) (a : FVec F S8x2048 .f32) : FVec F S8x2048 .bf16 :=
  truncf .bf16 (addf (extf .f32 v bitsLt_bf16_f32) a) bitsLt_bf16_f32

/-- The message of stream `t`, part `s` that device `c` receives on hop `h`. -/
def msg (t : Fin 4) (s : ℕ) : ℕ → Dev nD → FVec F S8x2048 .bf16
  | 0, c => hd m (src c t) t.val s
  | h + 1, c => addRows (msg t s h (src c t)) (rowsA m (src c t) (aoff t.val h s))

def landed (c : Dev nD) (i : Slot) : FVec F S8x2048 .bf16 := msg m i.1 i.2.2.val i.2.1.val c
/-- A received message with the device's rows added: what it sends on. -/
def fwd (c : Dev nD) (i : Slot) : FVec F S8x2048 .bf16 := addRows (landed m c i) (rowsA m c (aoff i.1.val i.2.1.val i.2.2.val))

/-- Eight rows of the result. -/
def outRows (c : Dev nD) (b : ℕ) : FVec F S8x2048 .f32 :=
  addf (addf (rowsA m c (320 + 8 * b)) (extf .f32 (landed m c (if b < 2 then 0 else 2, 7, if b % 2 = 0 then 0 else 1)) bitsLt_bf16_f32))
    (extf .f32 (landed m c (if b < 2 then 1 else 3, 6, if b % 2 = 0 then 0 else 1)) bitsLt_bf16_f32)

/-- The result block of device `c`. -/
def OUT (c : Dev nD) : FVec F S32x2048 .f32 := fun i =>
  outRows m c ((i 0).val / 8) (ix2 ⟨(i 0).val % 8, Nat.mod_lt _ (by decide)⟩ (i 1))

/-! ## The places messages are sent from -/

/-- A place a message can be sent from: a start place, a landing place with the message as received, a landing place with
    the device's rows added. -/
inductive Ent where
  | head (t : Fin 4) (s : Fin 2)
  | land (i : Slot)
  | fwd (i : Slot)
  deriving DecidableEq

/-- The place message `i` is sent from. -/
def srcE (i : Slot) : Ent :=
  match i with
  | (t, ⟨0, _⟩, s) => .head t s
  | (t, ⟨h + 1, hh⟩, s) => .fwd (t, ⟨h, Nat.lt_of_succ_lt hh⟩, s)

def entM : Ent → Memref sig .tc .vmem S8x2048 .bf16
  | .head t s => hS t s
  | .land i => cS i
  | .fwd i => cS i

def entX (c : Dev nD) : Ent → FVec F S8x2048 .bf16
  | .head t s => hd m c t.val s.val
  | .land i => landed m c i
  | .fwd i => fwd m c i

/-- What arrives is what was sent. -/
theorem landed_eq (c : Dev nD) (i : Slot) : landed m c i = entX m (src c i.1) (srcE i) := by
  obtain ⟨t, ⟨h, hh⟩, s⟩ := i
  cases h <;> rfl

theorem landed_tgt (c : Dev nD) (i : Slot) : landed m (tgt c i.1) i = entX m c (srcE i) := by
  rw [landed_eq, src_tgt]

end Cert.KernelIdeal.Stream

end
-- ==== Proof.KernelIdeal.Protocol.lean ====
/-
The protocol of the reduce-scatter kernel: which semaphore is raised by whom, and what each raise hands over.

* A device's barrier semaphore takes one unit from each ring neighbour.  The next device's unit hands over the places
  in its buffer where messages of the streams to the right land, the previous device's unit those of the streams to
  the left.
* A message's receive semaphore takes one transfer, which hands over the landing place holding the message.
* A message's send semaphore takes one transfer, which hands the place it was sent from back.

A device waits on its barrier before it sends, and on hop `h`'s receive semaphores while it still owes only messages
of later hops; so the levels 1 (barrier) and `h + 2` (receive, hop `h`) order the waits.
-/
module

public import proofs.«01_k».proof.Proof.KernelIdeal.Contents

@[expose] public section

set_option maxRecDepth 16384

noncomputable section

namespace Cert.KernelIdeal.Stream

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Resources listed one by one -/

/-- The resources of a list, joined. -/
def seps {α : Type} (Φ : α → sProp 𝕄) : List α → sProp 𝕄
  | [] => iprop(emp)
  | a :: l => iprop(Φ a ∗ seps Φ l)

section Seps

theorem eq_of_entails {P Q : sProp 𝕄} (h₁ : P ⊢ Q) (h₂ : Q ⊢ P) : P = Q := BI.equiv_iff.mp ⟨h₁, h₂⟩

theorem seps_cons {α : Type} (Φ : α → sProp 𝕄) (a : α) (l : List α) : seps Φ (a :: l) = iprop(Φ a ∗ seps Φ l) := rfl
theorem seps_nil {α : Type} (Φ : α → sProp 𝕄) : seps Φ [] = iprop(emp) := rfl

instance seps_storable {α : Type} (Φ : α → sProp 𝕄) [h : ∀ a, BI.Storable (upEmb : UEmb _ 𝕄) (Φ a)] (l : List α) : BI.Storable (upEmb : UEmb _ 𝕄) (seps Φ l) := by
  induction l with
  | nil => unfold seps; infer_instance
  | cons a l ih => unfold seps; infer_instance

theorem seps_eq_bigSep {α : Type} (Φ : α → sProp 𝕄) [DecidableEq α] : ∀ {l : List α}, l.Nodup → seps Φ l = bigSep l.toFinset Φ
  | [], _ => by rw [seps_nil, List.toFinset_nil, BI.bigSep_empty]; rfl
  | a :: l, h => by
    rw [List.nodup_cons] at h
    rw [seps_cons, List.toFinset_cons, BI.bigSep_insert (by rw [List.mem_toFinset]; exact h.1), seps_eq_bigSep Φ h.2]; rfl

theorem seps_mono {α : Type} (Φ Ψ : α → sProp 𝕄) (h : ∀ a, Φ a ⊢ Ψ a) : ∀ l : List α, seps Φ l ⊢ seps Ψ l
  | [] => .rfl
  | a :: l => BIClass.sep_mono (h a) (seps_mono Φ Ψ h l)

theorem seps_perm {α : Type} (Φ : α → sProp 𝕄) {l l' : List α} (h : l.Perm l') : seps Φ l ⊢ seps Φ l' := by
  induction h with
  | nil => exact .rfl
  | cons a _ ih => exact sep_mono_right ih
  | swap a b l =>
    rw [seps_cons, seps_cons, seps_cons, seps_cons]
    iintro ⟨Ha, Hb, Hl⟩
    isplitl [Hb]; · iexact Hb
    isplitl [Ha] <;> iassumption
  | trans _ _ ih ih' => exact ih.trans ih'

theorem seps_sep {α : Type} (Φ Ψ : α → sProp 𝕄) : ∀ l : List α, seps (fun a => iprop(Φ a ∗ Ψ a)) l = iprop(seps Φ l ∗ seps Ψ l)
  | [] => by
    rw [seps_nil, seps_nil, seps_nil]
    exact eq_of_entails (by iintro -; isplitl <;> iempintro) (by iintro -; iempintro)
  | a :: l => by
    rw [seps_cons, seps_cons, seps_cons, seps_sep Φ Ψ l]
    exact eq_of_entails (by
      iintro ⟨⟨H1, H2⟩, H3, H4⟩
      isplitl [H1 H3]
      · isplitl [H1] <;> iassumption
      · isplitl [H2] <;> iassumption) (by
      iintro ⟨⟨H1, H3⟩, H2, H4⟩
      isplitl [H1 H2]
      · isplitl [H1] <;> iassumption
      · isplitl [H3] <;> iassumption)

theorem seps_congr {α : Type} (Φ Ψ : α → sProp 𝕄) : ∀ {l : List α}, (∀ a ∈ l, Φ a = Ψ a) → seps Φ l = seps Ψ l
  | [], _ => rfl
  | a :: l, h => by
    rw [seps_cons, seps_cons, h a List.mem_cons_self, seps_congr Φ Ψ fun b hb => h b (List.mem_cons_of_mem a hb)]

theorem seps_map {α : Type} (Φ : α → sProp 𝕄) {β : Type} (g : β → α) : ∀ l : List β, seps Φ (l.map g) = seps (fun b => Φ (g b)) l
  | [] => rfl
  | b :: l => by rw [List.map_cons, seps_cons, seps_cons, seps_map Φ g l]

theorem seps_append {α : Type} (Φ : α → sProp 𝕄) : ∀ l l' : List α, seps Φ (l ++ l') = iprop(seps Φ l ∗ seps Φ l')
  | [], l' => by
    rw [List.nil_append, seps_nil]
    refine eq_of_entails ?_ ?_
    · iintro H; isplitr; · iempintro
      iexact H
    · iintro ⟨-, H⟩; iexact H
  | a :: l, l' => by
    rw [List.cons_append, seps_cons, seps_cons, seps_append Φ l l']
    exact eq_of_entails (by
      iintro ⟨H1, H2, H3⟩
      isplitr [H3]
      · isplitl [H1] <;> iassumption
      · iexact H3) (by
      iintro ⟨⟨H1, H2⟩, H3⟩
      isplitl [H1]; · iexact H1
      isplitl [H2] <;> iassumption)

/-- One resource of a list and the rest. -/
theorem seps_erase {α : Type} (Φ : α → sProp 𝕄) [DecidableEq α] {a : α} {l : List α} (h : a ∈ l) : seps Φ l ⊢ iprop(Φ a ∗ seps Φ (l.erase a)) :=
  seps_perm Φ (List.perm_cons_erase h)
theorem seps_unerase {α : Type} (Φ : α → sProp 𝕄) [DecidableEq α] {a : α} {l : List α} (h : a ∈ l) : iprop(Φ a ∗ seps Φ (l.erase a)) ⊢ seps Φ l :=
  seps_perm Φ (List.perm_cons_erase h).symm

end Seps

/-! ## The messages in program order -/

/-- The messages in the order the kernel sends them, and in which it waits for their arrival and departure. -/
def order : List Slot :=
  [(0, 0, 0), (0, 0, 1), (1, 0, 0), (1, 0, 1), (2, 0, 0), (2, 0, 1), (3, 0, 0), (3, 0, 1),
   (0, 1, 0), (0, 1, 1), (1, 1, 0), (1, 1, 1), (2, 1, 0), (2, 1, 1), (3, 1, 0), (3, 1, 1),
   (0, 2, 0), (0, 2, 1), (1, 2, 0), (1, 2, 1), (2, 2, 0), (2, 2, 1), (3, 2, 0), (3, 2, 1),
   (0, 3, 0), (0, 3, 1), (1, 3, 0), (1, 3, 1), (2, 3, 0), (2, 3, 1), (3, 3, 0), (3, 3, 1),
   (0, 4, 0), (0, 4, 1), (1, 4, 0), (1, 4, 1), (2, 4, 0), (2, 4, 1), (3, 4, 0), (3, 4, 1),
   (0, 5, 0), (0, 5, 1), (1, 5, 0), (1, 5, 1), (2, 5, 0), (2, 5, 1), (3, 5, 0), (3, 5, 1),
   (0, 6, 0), (0, 6, 1), (1, 6, 0), (1, 6, 1), (2, 6, 0), (2, 6, 1), (3, 6, 0), (3, 6, 1),
   (0, 7, 0), (0, 7, 1), (2, 7, 0), (2, 7, 1)]

/-- The landing places no message uses. -/
def spare : List Slot := [(1, 7, 0), (1, 7, 1), (3, 7, 0), (3, 7, 1)]

theorem order_nodup : order.Nodup := by decide +kernel
theorem mem_order : ∀ i : Slot, i ∈ order ↔ used i = true := by decide +kernel
theorem order_spare : (order ++ spare).Nodup ∧ (order ++ spare).toFinset = Finset.univ := by decide +kernel

def rightOrder : List Slot := order.filter fun i => right i.1
def leftOrder : List Slot := order.filter fun i => !right i.1

theorem order_perm : (leftOrder ++ rightOrder).Perm order := by decide +kernel

/-! ## The schedule -/

/-- A landing place of device `c`, at any contents. -/
def freeR (c : Dev nD) (i : Slot) : sProp 𝕄 := iprop(∃ Y, owns (c : Thread nD τ) (cS i) fullShare Y)
/-- A place of device `c` at its contents. -/
def entR (c : Dev nD) (e : Ent) : sProp 𝕄 := owns (c : Thread nD τ) (entM e) fullShare (entX m c e)

instance freeR_storable (c : Dev nD) (i : Slot) : BI.Storable (upEmb : UEmb _ 𝕄) (freeR (F := F) c i) := by unfold freeR; infer_instance
instance entR_storable (c : Dev nD) (e : Ent) : BI.Storable (upEmb : UEmb _ 𝕄) (entR m c e) := by unfold entR; infer_instance

/-- What raising a semaphore of device `c` hands over. -/
def pay (c : Dev nD) (d : Bool) : Cell → sProp 𝕄
  | none => if d then seps (freeR (nxt c)) rightOrder else seps (freeR (prv c)) leftOrder
  | some (false, i) => entR m c (srcE i)
  | some (true, i) => entR m c (.land i)

/-- The raises of a semaphore. -/
def duty : Cell → Finset Bool
  | none => Finset.univ
  | some (_, i) => if used i then {false} else ∅

def amt : Cell → ℕ
  | none => 1
  | some _ => N

/-- The schedule: one round. -/
def ringRd : Rounds.Schedule (GSem nD τ sig) Bool 𝕄 where
  duties g r := if r = 0 ∧ g.1.2 = .tc then (cellOfSem g.2).elim ∅ duty else ∅
  unitless _ := False
  amount g _ _ := (cellOfSem g.2).elim 1 amt
  payload g _ d := (cellOfSem g.2).elim iprop(emp) (pay m g.1.1 d)
  amount_pos g _ _ _ := by
    rcases cellOfSem g.2 with _ | _ | _
    · exact Nat.one_pos
    · exact Nat.one_pos
    · exact N_pos

instance ringRd_payload_storable (g : GSem nD τ sig) (r : ℕ) (d : Bool) :
    BI.Storable (upEmb : UEmb _ 𝕄) ((ringRd (F := F) m).payload g r d) := by
  show BI.Storable upEmb ((cellOfSem g.2).elim iprop(emp) (pay m g.1.1 d))
  rcases cellOfSem g.2 with _ | _ | ⟨_ | _, i⟩
  · show BI.Storable upEmb iprop(emp); infer_instance
  · show BI.Storable upEmb (if d then seps (freeR (nxt g.1.1)) rightOrder else seps (freeR (prv g.1.1)) leftOrder)
    split <;> infer_instance
  · show BI.Storable upEmb (entR m g.1.1 (srcE i)); infer_instance
  · show BI.Storable upEmb (entR m g.1.1 (.land i)); infer_instance

section Sched
variable (c : Dev nD)

theorem duties_cell (k : Cell) : (ringRd m).duties (kcell (c, k)) 0 = duty k := by
  dsimp only [ringRd]; rw [if_pos ⟨rfl, rfl⟩, cellOfSem_csem]; rfl
theorem duties_later (g : GSem nD τ sig) : ∀ r, 1 ≤ r → (ringRd m).duties g r = ∅ :=
  fun r hr => by dsimp only [ringRd]; exact if_neg fun h => by omega
theorem amount_cell (k : Cell) (d : Bool) : (ringRd m).amount (kcell (c, k)) 0 d = amt k := by
  dsimp only [ringRd]; rw [cellOfSem_csem]; rfl
theorem payload_cell (k : Cell) (d : Bool) : (ringRd m).payload (kcell (c, k)) 0 d = pay m c d k := by
  dsimp only [ringRd]; rw [cellOfSem_csem]; rfl

theorem duty_used {b : Bool} {i : Slot} (h : used i = true) : duty (some (b, i)) = {false} := if_pos h

theorem expect_bar : (ringRd m).expect (kcell (c, none)) 0 = 2 := by
  unfold Schedule.expect Schedule.amountOf
  rw [duties_cell, Finset.sum_congr rfl fun d _ => amount_cell m c none d]; rfl
theorem expect_cell {b : Bool} {i : Slot} (h : used i = true) : (ringRd m).expect (kcell (c, some (b, i))) 0 = N := by
  unfold Schedule.expect Schedule.amountOf
  rw [duties_cell, duty_used h, Finset.sum_singleton, amount_cell]; rfl

theorem rest_bar : bigSep ((ringRd m).duties (kcell (c, none)) 0 \ ∅) (fun d => (ringRd m).payload (kcell (c, none)) 0 d)
    = iprop(seps (freeR (prv c)) leftOrder ∗ seps (freeR (nxt c)) rightOrder) := by
  rw [Finset.sdiff_empty, duties_cell, show duty none = Finset.univ from rfl,
    bigSep_univ_eq_bigSepL [false, true] (by decide) (by decide), bigSepL_cons_cons, bigSepL_singleton, payload_cell, payload_cell]
  rfl
theorem rest_cell {b : Bool} {i : Slot} (h : used i = true) :
    bigSep ((ringRd m).duties (kcell (c, some (b, i))) 0 \ ∅) (fun d => (ringRd m).payload (kcell (c, some (b, i))) 0 d)
      = entR m c (if b then .land i else srcE i) := by
  rw [Finset.sdiff_empty, duties_cell, duty_used h, bigSep_singleton, payload_cell]
  cases b <;> rfl

end Sched

/-! ## What a device owes, and the levels -/

/-- The messages device `c` still owes. -/
def owing (c : Dev nD) : List Slot → CellTallies nD τ sig Unit
  | [] => 0
  | i :: l => owing c l + tallyAt (recvCell (tgt c i.1) i) () N

/-- At launch: every message, and a unit to both neighbours' barriers. -/
def O₁ (c : Dev nD) : CellTallies nD τ sig Unit := owing c order + tallyAt (barCell (nxt c)) () 1
def O₀ (c : Dev nD) : CellTallies nD τ sig Unit := O₁ c + tallyAt (barCell (prv c)) () 1

def L (g : GSem nD τ sig) : Finset Unit := if g.1.2 = .tc then {()} else ∅

def level : Option Cell → ℕ
  | none => 0
  | some none => 1
  | some (some (false, _)) => 0
  | some (some (true, i)) => i.2.1.val + 2

def lv (g : GSem nD τ sig) (_ : Unit) : ℕ := level (cellOfSem g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cell) : lv (kcell (c, k)) () = level (some k) := by unfold lv; rw [cellOfSem_csem]

theorem tally_pos {a g : GSem nD τ sig} {u : Unit} {n : ℕ} (h : 0 < tallyAt a () n g u) : g = a := by
  rw [tallyAt_apply] at h
  by_contra hn
  rw [if_neg (fun h' => hn h'.1)] at h
  exact Nat.lt_irrefl 0 h

theorem owing_pos {c : Dev nD} {g : GSem nD τ sig} {u : Unit} : ∀ {l : List Slot}, 0 < owing c l g u → ∃ i ∈ l, g = recvCell (tgt c i.1) i
  | [], h => absurd h (Nat.lt_irrefl 0)
  | i :: l, h => by
    rw [owing, Pi.add_apply, Finsupp.add_apply] at h
    by_cases h' : 0 < owing c l g u
    · obtain ⟨j, hj, e⟩ := owing_pos h'
      exact ⟨j, List.mem_cons_of_mem _ hj, e⟩
    · exact ⟨i, List.mem_cons_self, tally_pos (Nat.pos_of_ne_zero fun h0 => h' (by rw [h0] at h; exact h))⟩

theorem O₀_pos {c : Dev nD} {g : GSem nD τ sig} {u : Unit} (h : 0 < O₀ c g u) :
    (∃ k : Cell, k ≠ none → (∃ i, k = some (true, i))) ∧ ∃ (d : Dev nD) (k : Cell), g = kcell (d, k) ∧ (k = none ∨ ∃ i, k = some (true, i)) := by
  refine ⟨⟨none, fun h => absurd rfl h⟩, ?_⟩
  unfold O₀ O₁ at h
  rw [Pi.add_apply, Finsupp.add_apply, Pi.add_apply, Finsupp.add_apply] at h
  by_cases h1 : 0 < owing c order g u
  · obtain ⟨i, -, e⟩ := owing_pos h1
    exact ⟨tgt c i.1, some (true, i), e, Or.inr ⟨i, rfl⟩⟩
  · by_cases h2 : 0 < tallyAt (barCell (nxt c)) () 1 g u
    · exact ⟨nxt c, none, tally_pos h2, Or.inl rfl⟩
    · exact ⟨prv c, none, tally_pos (u := u) (n := 1) (Nat.pos_of_ne_zero fun h0 => h1 (by
        rw [h0, Nat.eq_zero_of_not_pos h2] at h; exact h)), Or.inl rfl⟩

/-- A semaphore at level 0 may be waited on whatever the device owes. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  have hl : lv ((c : Thread nD τ), SemLoc.dma q) () = 0 := by
    unfold lv cellOfSem; dsimp only; rw [if_pos hq]; rfl
  rcases hO with rfl | rfl
  · refine MayOwe.of_cut (L := L) (lev := lv) 0 (fun p hp => by rw [Finset.mem_singleton.mp hp, L_tc]; exact Finset.mem_singleton_self _)
      (fun g u hg => by obtain ⟨-, d, k, rfl, -⟩ := O₀_pos hg; exact Finset.mem_singleton_self _)
      (fun p hp => by rw [Finset.mem_singleton.mp hp]; exact hl.le)
      (fun g u hg => by
        obtain ⟨-, d, k, rfl, hk⟩ := O₀_pos hg
        rw [lv_cell]
        rcases hk with rfl | ⟨i, rfl⟩
        · exact Nat.one_pos
        · exact Nat.succ_pos _)
  · rw [MayWait_zero]; iintro -; iempintro

/-- A semaphore whose level is below that of every message still owed may be waited on. -/
theorem mayWait_cell (c : Dev nD) (k : Cell) (l : List Slot) (hl : ∀ j ∈ l, level (some k) < j.2.1.val + 2) :
    (levAts L lv : sProp 𝕄) ⊢ MayWait (c : Thread nD τ) (csem k) () (owing c l) :=
  MayOwe.of_cut (L := L) (lev := lv) (level (some k)) (fun p hp => by rw [Finset.mem_singleton.mp hp, L_tc]; exact Finset.mem_singleton_self _)
    (fun g u hg => by obtain ⟨i, -, rfl⟩ := owing_pos hg; exact Finset.mem_singleton_self _)
    (fun p hp => by rw [Finset.mem_singleton.mp hp]; exact (lv_cell c k).le)
    (fun g u hg => by
      obtain ⟨i, hi, rfl⟩ := owing_pos hg
      exact lt_of_lt_of_eq (hl i hi) (lv_cell (tgt c i.1) (some (true, i))).symm)

/-! ## Records every device holds -/

/-- Every semaphore's invariant and mark, and the levels. -/
def recs (K : Dev nD × Cell → ℕ) : sProp 𝕄 :=
  iprop((bigSep Finset.univ fun ck : Dev nD × Cell => cellInv ER (ringRd m) (K ck) (kcell ck))
    ∗ (bigSep Finset.univ fun ck : Dev nD × Cell => reached ER (kcell ck) 0) ∗ levAts L lv)

instance recs_persistent (K : Dev nD × Cell → ℕ) : BI.Persistent (recs m K) := by unfold recs; infer_instance

theorem rec_at (Φ : Dev nD × Cell → sProp 𝕄) (ck : Dev nD × Cell) : bigSep Finset.univ Φ ⊢ Φ ck := bigSep_elim (Finset.mem_univ ck)
theorem recs_inv (K : Dev nD × Cell → ℕ) (ck : Dev nD × Cell) : recs m K ⊢ cellInv ER (ringRd m) (K ck) (kcell ck) := by
  unfold recs; iintro ⟨H, -, -⟩; iapply (rec_at (fun ck => cellInv ER (ringRd m) (K ck) (kcell ck)) ck); iexact H
theorem recs_reached (K : Dev nD × Cell → ℕ) (ck : Dev nD × Cell) : recs m K ⊢ reached ER (kcell ck) 0 := by
  unfold recs; iintro ⟨-, H, -⟩; iapply (rec_at (fun ck => reached ER (kcell ck) 0) ck); iexact H
theorem recs_levels (K : Dev nD × Cell → ℕ) : recs m K ⊢ levAts L lv := by
  unfold recs; iintro ⟨-, -, H⟩; iexact H

end Cert.KernelIdeal.Stream

end
-- ==== Proof.KernelIdeal.Steps.lean ====
/-
One lemma for each kind of operation of the protocol: from the resources a device holds before it to those after it.

`Sync` lists what a device holds of the protocol: the messages still to send, the arrivals and departures still to wait
for, the places it holds with their contents, and the semaphores it has finished with.
-/
module

public import proofs.«01_k».proof.Proof.KernelIdeal.Protocol
public import Idealize.ShloMosaic.Lib.Pipeline.Value

@[expose] public section

set_option maxRecDepth 16384

noncomputable section

namespace Cert.KernelIdeal.Stream

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What sending message `i` takes besides the place it is sent from. -/
def startR (c : Dev nD) (i : Slot) : sProp 𝕄 :=
  iprop(dutyTok ER (sendCell c i) 0 false ∗ dutyTok ER (recvCell (tgt c i.1) i) 0 false ∗ atPos ER (sendCell c i) 0 ∅ 0 ∗ freeR (tgt c i.1) i)
/-- What waiting for message `i` takes. -/
def waitR (c : Dev nD) (i : Slot) : sProp 𝕄 :=
  iprop(atPos ER (recvCell c i) 0 ∅ 0 ∗ cred (tallyAt (recvCell c i) () N))
/-- What waiting for the departure of message `i` takes. -/
def sendR (c : Dev nD) (i : Slot) : sProp 𝕄 :=
  iprop(atPos ER (sendCell c i) 0 ∅ 0 ∗ cred (tallyAt (sendCell c i) () N))
/-- A semaphore device `c` has finished with. -/
def doneR (c : Dev nD) (k : Cell) : sProp 𝕄 := semVal (kcell (c, k)) 0

def Sync (K : Dev nD × Cell → ℕ) (c : Dev nD) (starts waits sends : List Slot) (stk : List Ent) (cl : List Cell) : sProp 𝕄 :=
  iprop(recs m K ∗ (∃ W, owes (c : Thread nD τ) (owing c starts) W) ∗ seps (startR c) starts ∗ seps (waitR c) waits ∗ seps (sendR c) sends
    ∗ seps (entR m c) stk ∗ seps (doneR c) cl)

variable (K : Dev nD × Cell → ℕ) (c : Dev nD)

theorem credit_eq (i : Slot) : (cS i).view.dmaCredit = N := rfl
theorem credit_ent (e : Ent) : (entM e).view.dmaCredit = N := by cases e <;> rfl

/-- Close a semaphore whose one round is over. -/
theorem close_cell (k : Cell) (R : ℕ) (hR : 1 ≤ R) : iprop(recs m K ∗ atPos ER (kcell (c, k)) R ∅ 0) ⊢ |={Set.univ}=> doneR c k := by
  iintro ⟨#HR, Hat⟩
  iapply (Rounds.cell_close ER (ringRd m) (Set.mem_univ (K (c, k))) (fun h => h) (R := R) (fun r hr => duties_later m (kcell (c, k)) r (hR.trans hr)))
  isplitr
  · iapply (recs_inv m K (c, k)); iexact HR
  · iexact Hat

/-- Close a semaphore nothing ever raises. -/
theorem close_unused (k : Cell) (hk : duty k = ∅) : iprop(recs m K ∗ atPos ER (kcell (c, k)) 0 ∅ 0) ⊢ |={Set.univ}=> doneR c k := by
  iintro ⟨#HR, Hat⟩
  iapply (Rounds.cell_close ER (ringRd m) (Set.mem_univ (K (c, k))) (fun h => h) (R := 0) (fun r _ => by
    rcases r with _ | r
    · rw [duties_cell, hk]
    · exact duties_later m _ _ (Nat.succ_pos r)))
  isplitr
  · iapply (recs_inv m K (c, k)); iexact HR
  · iexact Hat

set_option maxHeartbeats 1600000 in
/-- Sending message `i` to its target. -/
theorem step_start {M : sProp 𝕄} {i : Slot} {starts waits sends : List Slot} {stk : List Ent} {cl : List Cell} {n : Dev nD}
    {hsc : (cS i).view.ref.isScScratch = false} {hsrc : (entM (srcE i)).view.WordExact} {hdst : (cS i).view.WordExact}
    {hsem : DmaTarget.Typed .vmem (.dma (recvS i)) (.remote (Dev.tc n : Thread nD τ) (cS i) (.dma (sendS i)) hsc)}
    {α : Type} {Q : α → sProp 𝕄} {k : PUnit → Prog (TpuEff nD τ sig (Elt F) Λ₀ .tc) α}
    (hn : n = tgt c i.1) (hu : used i = true)
    (h : iprop(M ∗ Sync m K c starts waits (i :: sends) stk cl) ⊢ WP c (k ⟨⟩) Q) :
    iprop(M ∗ Sync m K c (i :: starts) waits sends (srcE i :: stk) cl)
      ⊢ WP c (.op (.enqueueDma (entM (srcE i)) (.remote (Dev.tc n : Thread nD τ) (cS i) (.dma (sendS i)) hsc) (.dma (recvS i)) hsrc hdst hsem) k) Q := by
  subst hn
  unfold Sync at h ⊢
  rw [seps_cons (startR c), seps_cons (entR m c)]
  unfold startR freeR entR owns
  iintro ⟨HM, #HR, ⟨%W, HO⟩, ⟨⟨HtS, HtV, HaS, ⟨%Y, %fd, %hfd, Hd⟩⟩, Hst⟩, Hw, Hs, ⟨⟨%fs, %hfs, Hsrc⟩, Hstk⟩, Hcl⟩
  have hsrcPay : ((entM (srcE i)).view.loc (c : Thread nD τ) ↦[(entM (srcE i)).view.set]{fullShare} fs) ⊢ (ringRd m).payload (kcell (c, some (false, i))) 0 false := by
    rw [payload_cell m c (some (false, i))]
    show _ ⊢ entR m c (srcE i)
    unfold entR
    rw [← hfs]
    exact owns_intro (c : Thread nD τ) (entM (srcE i)) fullShare fs
  have hdstPay : ((cS i).view.loc (tgt c i.1 : Thread nD τ) ↦[(cS i).view.set]{fullShare}
      ((cS i).view.write (Elt F) fd ((entM (srcE i)).view.read (Elt F) fs) Finset.univ)) ⊢ (ringRd m).payload (kcell (tgt c i.1, some (true, i))) 0 false := by
    have e : (cS i).view.read (Elt F) ((cS i).view.write (Elt F) fd ((entM (srcE i)).view.read (Elt F) fs) Finset.univ) = landed m (tgt c i.1) i :=
      (View.read_write_univ (Val := Elt F) (v := (cS i).view) fd ((entM (srcE i)).view.read (Elt F) fs)).trans (hfs.trans (landed_tgt m c i).symm)
    rw [payload_cell m (tgt c i.1) (some (true, i))]
    show _ ⊢ owns (Val := Elt F) (tgt c i.1 : Thread nD τ) (cS i) fullShare (landed m (tgt c i.1) i)
    rw [← e]
    exact owns_intro (tgt c i.1 : Thread nD τ) (cS i) fullShare _
  have hd : ∀ (d : Dev nD) (b : Bool), false ∈ (ringRd m).duties (kcell (d, some (b, i))) 0 := fun d b => by
    rw [duties_cell, duty_used hu]; exact Finset.mem_singleton_self _
  iapply (Rounds.wp_send_pointsTo 𝒱₀ ER (ringRd m) (c : Thread nD τ) none (c' := (tgt c i.1 : Thread nD τ)) (src := entM (srcE i)) (dst := cS i)
    (sS := .dma (sendS i)) (sem := .dma (recvS i)) (hsc := hsc) (hsrc := hsrc) (hdst := hdst) (hsem := hsem) (k := k)
    (κ₁ := K (c, some (false, i))) (κ₂ := K (tgt c i.1, some (true, i)))
    (r₁ := 0) (r₂ := 0) (d₁ := false) (d₂ := false) (fs := fs) (fd := fd)
    (hd c false) (hd (tgt c i.1) true) () () N (credit_eq i) (amount_cell m c (some (false, i)) false)
    (amount_cell m (tgt c i.1) (some (true, i)) false) (O₀ := owing c (i :: starts)) (owing c starts) rfl (W := W) hsrcPay hdstPay) $$ [Hsrc Hd HO HtS HtV]
  · isplitr; · iapply (recs_inv m K (c, some (false, i))); iexact HR
    isplitr; · iapply (recs_inv m K (tgt c i.1, some (true, i))); iexact HR
    isplitl [Hsrc]; · iexact Hsrc
    isplitl [Hd]; · iexact Hd
    isplitl [HO]; · iexact HO
    isplitl [HtS]; · iexact HtS
    isplitr; · iapply (recs_reached m K (c, some (false, i))); iexact HR
    isplitl [HtV]; · iexact HtV
    iapply (recs_reached m K (tgt c i.1, some (true, i))); iexact HR
  iintro ⟨HcS, HO⟩
  iapply h
  isplitl [HM]; · iexact HM
  isplitr; · iexact HR
  isplitl [HO]; · iexists W; iexact HO
  isplitl [Hst]; · iexact Hst
  isplitl [Hw]; · iexact Hw
  isplitl [HcS HaS Hs]
  · rw [seps_cons]
    isplitl [HcS HaS]
    · unfold sendR
      isplitl [HaS]
      · iexact HaS
      · iexact HcS
    · iexact Hs
  isplitl [Hstk]
  · iexact Hstk
  · iexact Hcl

/-- Waiting for message `i`. -/
theorem step_recv {M : sProp 𝕄} {i : Slot} {starts waits sends : List Slot} {stk : List Ent} {cl : List Cell}
    {src dst : Memref sig .tc .vmem S8x2048 .bf16} {hsrc : src.view.WordExact} {hdst : dst.view.WordExact}
    {α : Type} {Q : α → sProp 𝕄} {k : PUnit → Prog (TpuEff nD τ sig (Elt F) Λ₀ .tc) α}
    (hN : dst.view.dmaCredit = N) (hu : used i = true) (hl : ∀ j ∈ starts, i.2.1.val < j.2.1.val)
    (h : iprop(M ∗ Sync m K c starts waits sends (.land i :: stk) (some (true, i) :: cl)) ⊢ WP c (k ⟨⟩) Q) :
    iprop(M ∗ Sync m K c starts (i :: waits) sends stk cl) ⊢ WP c (.op (.waitDma2 (recvS i) src dst hsrc hdst) k) Q := by
  unfold Sync at h ⊢
  rw [seps_cons (waitR c)]
  unfold waitR
  iintro ⟨HM, #HR, ⟨%W, HO⟩, Hst, ⟨⟨Hat, Hcr⟩, Hw⟩, Hs, Hstk, Hcl⟩
  iapply (Rounds.wp_wait_rest_token 𝒱₀ ER (ringRd m) (c : Thread nD τ) none (κ := K (c, some (true, i))) (sm := .dma (recvS i)) (k' := N)
      (fun P => (wpE_waitDma2_eq 𝒱₀ (c : Thread nD τ) none Set.univ P).trans (by rw [hN])) (Set.mem_univ _) () (O := owing c starts) (W := W) (R := 0) (m := 0) (T := ∅)
      ((Nat.zero_add N).trans (expect_cell m c (b := true) hu).symm)) $$ [Hcr HO Hat]
  · isplitr; · iapply (recs_inv m K (c, some (true, i))); iexact HR
    isplitl [Hcr]; · iexact Hcr
    isplitl [HO]; · iexact HO
    isplitr
    · iapply (mayWait_cell c (some (true, i)) starts (fun j hj => Nat.add_lt_add_right (hl j hj) 2))
      iapply (recs_levels m K); iexact HR
    · iexact Hat
  iintro ⟨HO, Hat, -, Hpay⟩
  ihave Hp := (Entails.of_eq (rest_cell m c (b := true) hu)) $$ Hpay
  imod (close_cell m K c (some (true, i)) (0 + 1) (Nat.le_refl 1)) $$ [Hat] with Hz
  · isplitr
    · iexact HR
    · iexact Hat
  iapply h
  isplitl [HM]; · iexact HM
  isplitr; · iexact HR
  isplitl [HO]; · iexists _; iexact HO
  isplitl [Hst]; · iexact Hst
  isplitl [Hw]; · iexact Hw
  isplitl [Hs]; · iexact Hs
  rw [seps_cons, seps_cons]
  isplitl [Hp Hstk]
  · isplitl [Hp]
    · iexact Hp
    · iexact Hstk
  · isplitl [Hz]
    · iexact Hz
    · iexact Hcl

/-- Waiting for the departure of message `i`, when every message is sent. -/
theorem step_sent {M : sProp 𝕄} {i : Slot} {waits sends : List Slot} {stk : List Ent} {cl : List Cell}
    {src dst : Memref sig .tc .vmem S8x2048 .bf16} {hsrc : src.view.WordExact} {hdst : dst.view.WordExact}
    {α : Type} {Q : α → sProp 𝕄} {k : PUnit → Prog (TpuEff nD τ sig (Elt F) Λ₀ .tc) α}
    (hN : dst.view.dmaCredit = N) (hu : used i = true)
    (h : iprop(M ∗ Sync m K c [] waits sends (srcE i :: stk) (some (false, i) :: cl)) ⊢ WP c (k ⟨⟩) Q) :
    iprop(M ∗ Sync m K c [] waits (i :: sends) stk cl) ⊢ WP c (.op (.waitDma2 (sendS i) src dst hsrc hdst) k) Q := by
  unfold Sync at h ⊢
  rw [seps_cons (sendR c)]
  unfold sendR
  iintro ⟨HM, #HR, ⟨%W, HO⟩, Hst, Hw, ⟨⟨Hat, Hcr⟩, Hs⟩, Hstk, Hcl⟩
  iapply (Rounds.wp_wait_rest_token 𝒱₀ ER (ringRd m) (c : Thread nD τ) none (κ := K (c, some (false, i))) (sm := .dma (sendS i)) (k' := N)
      (fun P => (wpE_waitDma2_eq 𝒱₀ (c : Thread nD τ) none Set.univ P).trans (by rw [hN])) (Set.mem_univ _) () (O := owing c []) (W := W) (R := 0) (m := 0) (T := ∅)
      ((Nat.zero_add N).trans (expect_cell m c (b := false) hu).symm)) $$ [Hcr HO Hat]
  · isplitr; · iapply (recs_inv m K (c, some (false, i))); iexact HR
    isplitl [Hcr]; · iexact Hcr
    isplitl [HO]; · iexact HO
    isplitr
    · iapply (mayWait_cell c (some (false, i)) [] (fun j hj => absurd hj List.not_mem_nil))
      iapply (recs_levels m K); iexact HR
    · iexact Hat
  iintro ⟨HO, Hat, -, Hpay⟩
  ihave Hp := (Entails.of_eq (rest_cell m c (b := false) hu)) $$ Hpay
  imod (close_cell m K c (some (false, i)) (0 + 1) (Nat.le_refl 1)) $$ [Hat] with Hz
  · isplitr
    · iexact HR
    · iexact Hat
  iapply h
  isplitl [HM]; · iexact HM
  isplitr; · iexact HR
  isplitl [HO]; · iexists _; iexact HO
  isplitl [Hst]; · iexact Hst
  isplitl [Hw]; · iexact Hw
  isplitl [Hs]; · iexact Hs
  rw [seps_cons, seps_cons]
  isplitl [Hp Hstk]
  · isplitl [Hp]
    · iexact Hp
    · iexact Hstk
  · isplitl [Hz]
    · iexact Hz
    · iexact Hcl

/-- The sent messages, in the order they were sent. -/
theorem sends_reverse {M P : sProp 𝕄} {starts waits sends : List Slot} {stk : List Ent} {cl : List Cell}
    (h : iprop(M ∗ Sync m K c starts waits sends.reverse stk cl) ⊢ P) : iprop(M ∗ Sync m K c starts waits sends stk cl) ⊢ P := by
  refine BIBase.Entails.trans ?_ h
  unfold Sync
  exact sep_mono_right (sep_mono_right (sep_mono_right (sep_mono_right (sep_mono_right (sep_mono_left (seps_perm (sendR c) (List.reverse_perm sends).symm))))))

/-! ## Loads and stores of the message places -/

/-- Eight rows as a vector of the landing buffer's rank, and of the start buffer's. -/
def up (v : FVec F S8x2048 .bf16) : FVec F S1x1x1x8x2048 .bf16 := shapeCast S1x1x1x8x2048 v shapeCasts_S8x2048_S1x1x1x8x2048
def upH (v : FVec F S8x2048 .bf16) : FVec F S1x1x8x2048 .bf16 := shapeCast S1x1x8x2048 v shapeCasts_S8x2048_S1x1x8x2048

theorem shapeCast_up (v : FVec F S8x2048 .bf16) (h : S1x1x1x8x2048.ShapeCasts S8x2048) : shapeCast S8x2048 (up v) h = v := shapeCast_shapeCast v _ _
theorem shapeCast_upH (v : FVec F S8x2048 .bf16) (h : S1x1x8x2048.ShapeCasts S8x2048) : shapeCast S8x2048 (upH v) h = v := shapeCast_shapeCast v _ _

theorem owns_load {Y : FVec F S8x2048 .bf16} (i : Slot) {hl : commM.view.LoadsAt (rC i).toLoadRect}
    {α : Type} {Q : α → sProp 𝕄} {k : ((rC i).shape.Idx → Elt F .bf16) → Prog (TpuEff nD τ sig (Elt F) Λ₀ .tc) α} :
    owns (c : Thread nD τ) (cS i) fullShare Y
      ⊢ iprop((owns (c : Thread nD τ) (cS i) fullShare Y -∗ WP c (k (up Y)) Q) -∗ WP c (.op (.load commM (rC i).toLoadRect hl) k) Q) := by
  unfold owns
  iintro ⟨%f, %hf, Hp⟩ Hk
  iapply (wp_load_rect 𝒱₀ (c : Thread nD τ) none Set.univ (m := commM) (r := rC i) (S := (cS i).view.set) (f := f) (by rw [show (cS i).view.set = (commM.access (rC i)).set from View.set_reshape _ _])) $$ [Hp]
  · iexact Hp
  iintro Hp
  have e : (commM.access (rC i)).read (Elt F) f = up Y := by
    rw [← hf]
    exact (shapeCast_shapeCast (s := S1x1x1x8x2048) (t := S8x2048) ((commM.access (rC i)).read (Elt F) f) shapeCasts_S1x1x1x8x2048_S8x2048 shapeCasts_S8x2048_S1x1x1x8x2048).symm
  rw [e]
  iapply Hk
  iexists f
  isplitr
  · ipureintro; exact hf
  · iexact Hp

theorem owns_store {Y w : FVec F S8x2048 .bf16} (i : Slot) {hx : (commM.access (rC i)).Stores Finset.univ}
    {hm : (Finset.univ : Finset (rC i).shape.Idx) = Finset.univ ∨ ∀ a, (rC i).stride a = 1}
    {α : Type} {Q : α → sProp 𝕄} {k : PUnit → Prog (TpuEff nD τ sig (Elt F) Λ₀ .tc) α} :
    owns (c : Thread nD τ) (cS i) fullShare Y
      ⊢ iprop((owns (c : Thread nD τ) (cS i) fullShare w -∗ WP c (k ⟨⟩) Q) -∗ WP c (.op (.store commM (rC i) (up w) Finset.univ hx hm) k) Q) := by
  unfold owns
  iintro ⟨%f, %hf, Hp⟩ Hk
  iapply (wp_store 𝒱₀ (c : Thread nD τ) none Set.univ (m := commM) (r := rC i) (w := up w) (Mk := Finset.univ) (S := (cS i).view.set) (f := f)
    (by rw [show (cS i).view.set = (commM.access (rC i)).set from View.set_reshape _ _]; exact Finset.Subset.refl _)) $$ [Hp]
  · iexact Hp
  iintro Hp
  iapply Hk
  iexists ((commM.access (rC i)).write (Elt F) f (up w) Finset.univ)
  isplitr
  · ipureintro
    have e : (commM.access (rC i)).read (Elt F) ((commM.access (rC i)).write (Elt F) f (up w) Finset.univ) = up w := View.read_write_univ (Val := Elt F) _ _
    show shapeCast S8x2048 ((commM.access (rC i)).read (Elt F) ((commM.access (rC i)).write (Elt F) f (up w) Finset.univ)) shapeCasts_S1x1x1x8x2048_S8x2048 = w
    rw [e]
    exact shapeCast_up w _
  · iexact Hp

theorem land_load (i : Slot) {hl : commM.view.LoadsAt (rC i).toLoadRect}
    {α : Type} {Q : α → sProp 𝕄} {k : ((rC i).shape.Idx → Elt F .bf16) → Prog (TpuEff nD τ sig (Elt F) Λ₀ .tc) α} :
    entR m c (.land i) ⊢ iprop((entR m c (.land i) -∗ WP c (k (up (landed m c i))) Q) -∗ WP c (.op (.load commM (rC i).toLoadRect hl) k) Q) :=
  owns_load c i
theorem land_store (i : Slot) {hx : (commM.access (rC i)).Stores Finset.univ}
    {hm : (Finset.univ : Finset (rC i).shape.Idx) = Finset.univ ∨ ∀ a, (rC i).stride a = 1}
    {α : Type} {Q : α → sProp 𝕄} {k : PUnit → Prog (TpuEff nD τ sig (Elt F) Λ₀ .tc) α} :
    entR m c (.land i) ⊢ iprop((entR m c (.fwd i) -∗ WP c (k ⟨⟩) Q) -∗ WP c (.op (.store commM (rC i) (up (fwd m c i)) Finset.univ hx hm) k) Q) :=
  owns_store c i

/-- Loading the message just received. -/
theorem step_load_top {M : sProp 𝕄} {i : Slot} {starts waits sends : List Slot} {stk : List Ent} {cl : List Cell} {hl : commM.view.LoadsAt (rC i).toLoadRect}
    {α : Type} {Q : α → sProp 𝕄} {k : ((rC i).shape.Idx → Elt F .bf16) → Prog (TpuEff nD τ sig (Elt F) Λ₀ .tc) α}
    (h : iprop(M ∗ Sync m K c starts waits sends (.land i :: stk) cl) ⊢ WP c (k (up (landed m c i))) Q) :
    iprop(M ∗ Sync m K c starts waits sends (.land i :: stk) cl) ⊢ WP c (.op (.load commM (rC i).toLoadRect hl) k) Q := by
  unfold Sync at h ⊢
  rw [seps_cons (entR m c)] at h ⊢
  iintro ⟨HM, #HR, HO, Hst, Hw, Hs, ⟨He, Hstk⟩, Hcl⟩
  iapply (land_load m c i) $$ [He]
  · iexact He
  iintro He
  iapply h
  isplitl [HM]; · iexact HM
  isplitr; · iexact HR
  isplitl [HO]; · iexact HO
  isplitl [Hst]; · iexact Hst
  isplitl [Hw]; · iexact Hw
  isplitl [Hs]; · iexact Hs
  isplitl [He Hstk]
  · isplitl [He]
    · iexact He
    · iexact Hstk
  · iexact Hcl

/-- Loading a message received earlier. -/
theorem step_load_comm {M : sProp 𝕄} (i : Slot) {starts waits sends : List Slot} {stk : List Ent} {cl : List Cell} {hl : commM.view.LoadsAt (rC i).toLoadRect}
    {α : Type} {Q : α → sProp 𝕄} {k : ((rC i).shape.Idx → Elt F .bf16) → Prog (TpuEff nD τ sig (Elt F) Λ₀ .tc) α}
    (hi : Ent.land i ∈ stk)
    (h : iprop(M ∗ Sync m K c starts waits sends stk cl) ⊢ WP c (k (up (landed m c i))) Q) :
    iprop(M ∗ Sync m K c starts waits sends stk cl) ⊢ WP c (.op (.load commM (rC i).toLoadRect hl) k) Q := by
  unfold Sync at h ⊢
  iintro ⟨HM, #HR, HO, Hst, Hw, Hs, Hstk, Hcl⟩
  ihave Hstk := (seps_erase (entR m c) hi) $$ Hstk
  icases Hstk with ⟨He, Hstk⟩
  iapply (land_load m c i) $$ [He]
  · iexact He
  iintro He
  iapply h
  isplitl [HM]; · iexact HM
  isplitr; · iexact HR
  isplitl [HO]; · iexact HO
  isplitl [Hst]; · iexact Hst
  isplitl [Hw]; · iexact Hw
  isplitl [Hs]; · iexact Hs
  isplitl [He Hstk]
  · iapply (seps_unerase (entR m c) hi)
    isplitl [He]
    · iexact He
    · iexact Hstk
  · iexact Hcl

/-- Storing the received message with the device's rows added over it. -/
theorem step_store_top {M : sProp 𝕄} {i : Slot} {starts waits sends : List Slot} {stk : List Ent} {cl : List Cell} {w : FVec F S1x1x1x8x2048 .bf16}
    {hx : (commM.access (rC i)).Stores Finset.univ} {hm : (Finset.univ : Finset (rC i).shape.Idx) = Finset.univ ∨ ∀ a, (rC i).stride a = 1}
    {α : Type} {Q : α → sProp 𝕄} {k : PUnit → Prog (TpuEff nD τ sig (Elt F) Λ₀ .tc) α}
    (hw : w = up (fwd m c i))
    (h : iprop(M ∗ Sync m K c starts waits sends (.fwd i :: stk) cl) ⊢ WP c (k ⟨⟩) Q) :
    iprop(M ∗ Sync m K c starts waits sends (.land i :: stk) cl) ⊢ WP c (.op (.store commM (rC i) w Finset.univ hx hm) k) Q := by
  subst hw
  unfold Sync at h ⊢
  rw [seps_cons (entR m c)] at h ⊢
  iintro ⟨HM, #HR, HO, Hst, Hw, Hs, ⟨He, Hstk⟩, Hcl⟩
  iapply (land_store m c i) $$ [He]
  · iexact He
  iintro He
  iapply h
  isplitl [HM]; · iexact HM
  isplitr; · iexact HR
  isplitl [HO]; · iexact HO
  isplitl [Hst]; · iexact Hst
  isplitl [Hw]; · iexact Hw
  isplitl [Hs]; · iexact Hs
  isplitl [He Hstk]
  · isplitl [He]
    · iexact He
    · iexact Hstk
  · iexact Hcl

/-! ## The start places -/

/-- A start place of device `c`, at any contents. -/
def freeH (c : Dev nD) (e : Fin 4 × Fin 2) : sProp 𝕄 := iprop(∃ Y, owns (c : Thread nD τ) (hS e.1 e.2) fullShare Y)

/-- The start places not yet written and those written. -/
def Heads (free : List (Fin 4 × Fin 2)) (stk : List Ent) : sProp 𝕄 := iprop(seps (freeH c) free ∗ seps (entR m c) stk)

/-- Loading a start place before it is written. -/
theorem step_load_head {M R : sProp 𝕄} {e : Fin 4 × Fin 2} {free : List (Fin 4 × Fin 2)} {stk : List Ent} {hl : headM.view.LoadsAt (rH e.1 e.2).toLoadRect}
    {α : Type} {Q : α → sProp 𝕄} {k : ((rH e.1 e.2).shape.Idx → Elt F .bf16) → Prog (TpuEff nD τ sig (Elt F) Λ₀ .tc) α}
    (h : ∀ v, iprop(M ∗ Heads m c (e :: free) stk ∗ R) ⊢ WP c (k v) Q) :
    iprop(M ∗ Heads m c (e :: free) stk ∗ R) ⊢ WP c (.op (.load headM (rH e.1 e.2).toLoadRect hl) k) Q := by
  unfold Heads at h ⊢
  rw [seps_cons (freeH c)] at h ⊢
  unfold freeH owns at h ⊢
  iintro ⟨HM, ⟨⟨⟨%Y, %f, %hf, Hp⟩, Hfr⟩, Hstk⟩, HR⟩
  iapply (wp_load_rect 𝒱₀ (c : Thread nD τ) none Set.univ (m := headM) (r := rH e.1 e.2) (S := (hS e.1 e.2).view.set) (f := f)
    (by rw [show (hS e.1 e.2).view.set = (headM.access (rH e.1 e.2)).set from View.set_reshape _ _])) $$ [Hp]
  · iexact Hp
  iintro Hp
  iapply (h _)
  isplitl [HM]; · iexact HM
  isplitr [HR]
  · isplitr [Hstk]
    · isplitl [Hp]
      · iexists Y; iexists f
        isplitr
        · ipureintro; exact hf
        · iexact Hp
      · iexact Hfr
    · iexact Hstk
  · iexact HR

/-- Writing a start place. -/
theorem step_store_head {M R : sProp 𝕄} {e : Fin 4 × Fin 2} {free : List (Fin 4 × Fin 2)} {stk : List Ent} {w : FVec F S1x1x8x2048 .bf16}
    {hx : (headM.access (rH e.1 e.2)).Stores Finset.univ} {hm : (Finset.univ : Finset (rH e.1 e.2).shape.Idx) = Finset.univ ∨ ∀ a, (rH e.1 e.2).stride a = 1}
    {α : Type} {Q : α → sProp 𝕄} {k : PUnit → Prog (TpuEff nD τ sig (Elt F) Λ₀ .tc) α}
    (hw : w = upH (hd m c e.1.val e.2.val))
    (h : iprop(M ∗ Heads m c free (.head e.1 e.2 :: stk) ∗ R) ⊢ WP c (k ⟨⟩) Q) :
    iprop(M ∗ Heads m c (e :: free) stk ∗ R) ⊢ WP c (.op (.store headM (rH e.1 e.2) w Finset.univ hx hm) k) Q := by
  subst hw
  unfold Heads at h ⊢
  rw [seps_cons (freeH c)]
  rw [seps_cons (entR m c)] at h
  unfold freeH owns
  iintro ⟨HM, ⟨⟨⟨%Y, %f, %hf, Hp⟩, Hfr⟩, Hstk⟩, HR⟩
  iapply (wp_store 𝒱₀ (c : Thread nD τ) none Set.univ (m := headM) (r := rH e.1 e.2) (w := upH (hd m c e.1.val e.2.val)) (Mk := Finset.univ) (S := (hS e.1 e.2).view.set) (f := f)
    (by rw [show (hS e.1 e.2).view.set = (headM.access (rH e.1 e.2)).set from View.set_reshape _ _]; exact Finset.Subset.refl _)) $$ [Hp]
  · iexact Hp
  iintro Hp
  iapply h
  isplitl [HM]; · iexact HM
  isplitr [HR]
  · isplitl [Hfr]; · iexact Hfr
    isplitl [Hp]
    · unfold entR owns
      iexists ((headM.access (rH e.1 e.2)).write (Elt F) f (upH (hd m c e.1.val e.2.val)) Finset.univ)
      isplitr
      · ipureintro
        have e' : (headM.access (rH e.1 e.2)).read (Elt F) ((headM.access (rH e.1 e.2)).write (Elt F) f (upH (hd m c e.1.val e.2.val)) Finset.univ) = upH (hd m c e.1.val e.2.val) :=
          View.read_write_univ (Val := Elt F) _ _
        show shapeCast S8x2048 ((headM.access (rH e.1 e.2)).read (Elt F) ((headM.access (rH e.1 e.2)).write (Elt F) f (upH (hd m c e.1.val e.2.val)) Finset.univ)) shapeCasts_S1x1x8x2048_S8x2048 = hd m c e.1.val e.2.val
        rw [e']
        exact shapeCast_upH _ _
      · iexact Hp
    · iexact Hstk
  · iexact HR

/-! ## The barrier -/

/-- What sending message `i` takes before the target has handed over its landing place. -/
def tokR (c : Dev nD) (i : Slot) : sProp 𝕄 :=
  iprop(dutyTok ER (sendCell c i) 0 false ∗ dutyTok ER (recvCell (tgt c i.1) i) 0 false ∗ atPos ER (sendCell c i) 0 ∅ 0)

/-- What does not change at the barrier. -/
def Held (stk : List Ent) : sProp 𝕄 :=
  iprop(atPos ER (barCell c) 0 ∅ 0 ∗ cred (tallyAt (barCell c) () 2) ∗ seps (tokR c) order ∗ seps (waitR c) order ∗ seps (entR m c) stk)

/-- Before the barrier, after its first raise, after its second. -/
def Bar0 (stk : List Ent) : sProp 𝕄 :=
  iprop(recs m K ∗ (∃ W, owes (c : Thread nD τ) (O₀ c) W) ∗ (dutyTok ER (barCell (prv c)) 0 true ∗ seps (freeR c) rightOrder)
    ∗ (dutyTok ER (barCell (nxt c)) 0 false ∗ seps (freeR c) leftOrder) ∗ Held m c stk)
def Bar1 (stk : List Ent) : sProp 𝕄 :=
  iprop(recs m K ∗ (∃ W, owes (c : Thread nD τ) (O₁ c) W) ∗ (dutyTok ER (barCell (nxt c)) 0 false ∗ seps (freeR c) leftOrder) ∗ Held m c stk)
def Bar2 (stk : List Ent) : sProp 𝕄 :=
  iprop(recs m K ∗ (∃ W, owes (c : Thread nD τ) (owing c order) W) ∗ Held m c stk)

theorem duty_bar (d : Dev nD) (b : Bool) : b ∈ (ringRd m).duties (kcell (d, none)) 0 := by
  rw [duties_cell]; exact Finset.mem_univ b

theorem step_signal_prv {M : sProp 𝕄} {stk : List Ent} {n : Dev nD} {α : Type} {Q : α → sProp 𝕄} {k : PUnit → Prog (TpuEff nD τ sig (Elt F) Λ₀ .tc) α}
    (hn : n = prv c) (h : iprop(M ∗ Bar1 m K c stk) ⊢ WP c (k ⟨⟩) Q) :
    iprop(M ∗ Bar0 m K c stk) ⊢ WP c (.op (.semSignal (n : Thread nD τ) barS 1) k) Q := by
  subst hn
  unfold Bar0
  unfold Bar1 at h
  have hp : seps (freeR c) rightOrder ⊢ (ringRd m).payload (kcell (prv c, none)) 0 true := by
    rw [payload_cell]
    show _ ⊢ seps (freeR (nxt (prv c))) rightOrder
    rw [nxt_prv]
  iintro ⟨HM, #HR, ⟨%W, HO⟩, ⟨Ht, Hfree⟩, Hn, Hh⟩
  iapply (Rounds.wp_signal 𝒱₀ ER (ringRd m) (c : Thread nD τ) none (dst := (prv c : Thread nD τ)) (sem := barS) (k' := 1) (r := 0) (κ := K (prv c, none)) (d := true)
    (duty_bar m (prv c) true) (amount_cell m (prv c) none true) () (O₀ := O₀ c) (O₁ c) rfl (W := W)) $$ [HO Ht Hfree]
  · isplitr; · iapply (recs_inv m K (prv c, none)); iexact HR
    isplitl [HO]; · iexact HO
    isplitl [Ht]; · iexact Ht
    isplitl [Hfree]; · iapply hp; iexact Hfree
    iapply (recs_reached m K (prv c, none)); iexact HR
  iintro HO
  iapply h
  isplitl [HM]; · iexact HM
  isplitr; · iexact HR
  isplitl [HO]; · iexists W; iexact HO
  isplitl [Hn]; · iexact Hn
  iexact Hh

theorem step_signal_nxt {M : sProp 𝕄} {stk : List Ent} {n : Dev nD} {α : Type} {Q : α → sProp 𝕄} {k : PUnit → Prog (TpuEff nD τ sig (Elt F) Λ₀ .tc) α}
    (hn : n = nxt c) (h : iprop(M ∗ Bar2 m K c stk) ⊢ WP c (k ⟨⟩) Q) :
    iprop(M ∗ Bar1 m K c stk) ⊢ WP c (.op (.semSignal (n : Thread nD τ) barS 1) k) Q := by
  subst hn
  unfold Bar1
  unfold Bar2 at h
  have hp : seps (freeR c) leftOrder ⊢ (ringRd m).payload (kcell (nxt c, none)) 0 false := by
    rw [payload_cell]
    show _ ⊢ seps (freeR (prv (nxt c))) leftOrder
    rw [prv_nxt]
  iintro ⟨HM, #HR, ⟨%W, HO⟩, ⟨Ht, Hfree⟩, Hh⟩
  iapply (Rounds.wp_signal 𝒱₀ ER (ringRd m) (c : Thread nD τ) none (dst := (nxt c : Thread nD τ)) (sem := barS) (k' := 1) (r := 0) (κ := K (nxt c, none)) (d := false)
    (duty_bar m (nxt c) false) (amount_cell m (nxt c) none false) () (O₀ := O₁ c) (owing c order) rfl (W := W)) $$ [HO Ht Hfree]
  · isplitr; · iapply (recs_inv m K (nxt c, none)); iexact HR
    isplitl [HO]; · iexact HO
    isplitl [Ht]; · iexact Ht
    isplitl [Hfree]; · iapply hp; iexact Hfree
    iapply (recs_reached m K (nxt c, none)); iexact HR
  iintro HO
  iapply h
  isplitl [HM]; · iexact HM
  isplitr; · iexact HR
  isplitl [HO]; · iexists W; iexact HO
  iexact Hh

theorem right_false {t : Fin 4} (h : right t = false) (c : Dev nD) : tgt c t = prv c := by unfold tgt; rw [h]; rfl
theorem right_true {t : Fin 4} (h : right t = true) (c : Dev nD) : tgt c t = nxt c := by unfold tgt; rw [h]; rfl

/-- The landing places the neighbours handed over are those of the messages to send. -/
theorem free_order : iprop(seps (freeR (prv c)) leftOrder ∗ seps (freeR (nxt c)) rightOrder) ⊢ (seps (fun i => freeR (F := F) (tgt c i.1) i) order : sProp 𝕄) := by
  have e₁ : (seps (freeR (prv c)) leftOrder : sProp 𝕄) = seps (fun i => freeR (F := F) (tgt c i.1) i) leftOrder :=
    seps_congr _ _ fun i hi => by
      unfold leftOrder at hi
      rw [List.mem_filter] at hi
      rw [right_false (by simpa using hi.2)]
  have e₂ : (seps (freeR (nxt c)) rightOrder : sProp 𝕄) = seps (fun i => freeR (F := F) (tgt c i.1) i) rightOrder :=
    seps_congr _ _ fun i hi => by
      unfold rightOrder at hi
      rw [List.mem_filter] at hi
      rw [right_true (by simpa using hi.2)]
  rw [e₁, e₂, ← seps_append]
  exact seps_perm _ order_perm

theorem step_bar_wait {M : sProp 𝕄} {stk stk' : List Ent} {α : Type} {Q : α → sProp 𝕄} {k : PUnit → Prog (TpuEff nD τ sig (Elt F) Λ₀ .tc) α}
    (hs : stk.Perm stk') (h : iprop(M ∗ Sync m K c order order [] stk' [none]) ⊢ WP c (k ⟨⟩) Q) :
    iprop(M ∗ Bar2 m K c stk) ⊢ WP c (.op (.semWait barS 2) k) Q := by
  unfold Bar2 Held
  unfold Sync at h
  iintro ⟨HM, #HR, ⟨%W, HO⟩, Hat, Hcr, Htok, Hw, Hstk⟩
  iapply (Rounds.wp_wait_rest_token 𝒱₀ ER (ringRd m) (c : Thread nD τ) none (κ := K (c, none)) (sm := .reg barS) (k' := 2)
      (wpE_semWait_eq 𝒱₀ (c : Thread nD τ) none Set.univ) (Set.mem_univ _) () (O := owing c order) (W := W) (R := 0) (m := 0) (T := ∅)
      (expect_bar m c).symm) $$ [Hcr HO Hat]
  · isplitr; · iapply (recs_inv m K (c, none)); iexact HR
    isplitl [Hcr]; · iexact Hcr
    isplitl [HO]; · iexact HO
    isplitr
    · iapply (mayWait_cell c none order (fun j hj => by show 1 < _; omega))
      iapply (recs_levels m K); iexact HR
    · iexact Hat
  iintro ⟨HO, Hat, -, Hpay⟩
  ihave Hp := (Entails.of_eq (rest_bar m c)) $$ Hpay
  ihave Hp := (free_order (F := F) c) $$ Hp
  imod (close_cell m K c none (0 + 1) (Nat.le_refl 1)) $$ [Hat] with Hz
  · isplitr
    · iexact HR
    · iexact Hat
  iapply h
  isplitl [HM]; · iexact HM
  isplitr; · iexact HR
  isplitl [HO]; · iexists _; iexact HO
  isplitl [Htok Hp]
  · rw [show (startR (F := F) c : Slot → sProp 𝕄) = fun i => iprop(dutyTok ER (sendCell c i) 0 false ∗ dutyTok ER (recvCell (tgt c i.1) i) 0 false ∗ atPos ER (sendCell c i) 0 ∅ 0 ∗ freeR (tgt c i.1) i) from rfl]
    iapply (seps_mono (fun i => iprop(tokR (F := F) c i ∗ freeR (tgt c i.1) i)) _ (fun i => by
      unfold tokR
      iintro ⟨⟨H1, H2, H3⟩, H4⟩
      isplitl [H1]; · iexact H1
      isplitl [H2]; · iexact H2
      isplitl [H3]; · iexact H3
      iexact H4) order)
    rw [seps_sep]
    isplitl [Htok]
    · iexact Htok
    · iexact Hp
  isplitl [Hw]; · iexact Hw
  isplitr; · rw [seps_nil]; iempintro
  isplitl [Hstk]; · iapply (seps_perm (entR m c) hs); iexact Hstk
  rw [seps_cons, seps_nil]
  isplitl [Hz]
  · iexact Hz
  · iempintro

end Cert.KernelIdeal.Stream

end
-- ==== Proof.KernelIdeal.Local.lean ====
/-
The loads and stores of the buffers only their device touches: the two input blocks, the transposed block, the permuted
one, the local product and the result.
-/
module

public import proofs.«01_k».proof.Proof.KernelIdeal.Steps

@[expose] public section

set_option maxRecDepth 16384

noncomputable section

namespace Cert.KernelIdeal.Stream

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ UU ℕ

/-! ## Bands of rows -/

section Rows
variable {n C h o : ℕ} (inb : ∀ a, (![o, 0] : Fin 2 → ℕ) a + (![h, C] : Fin 2 → ℕ) a ≤ (⟨2, ![n, C]⟩ : Shape).size a)

/-- Rows `o` to `o + h` of an array of two axes. -/
abbrev band : Rect ⟨2, ![n, C]⟩ := Rect.unit (s := ⟨2, ![n, C]⟩) ![o, 0] ![h, C] inb

include inb in
theorem band_le : o + h ≤ n := inb 0

theorem band_emb (j : (⟨2, ![h, C]⟩ : Shape).Idx) :
    (band inb).emb j = ix2 ⟨o + (j 0).val, lt_of_lt_of_le (Nat.add_lt_add_left (j 0).isLt o) (band_le inb)⟩ (j 1) := by
  funext a
  refine Fin.ext ?_
  match a with
  | ⟨0, _⟩ => show o + 1 * (j 0).val = o + (j 0).val; rw [Nat.one_mul]
  | ⟨1, _⟩ => show 0 + 1 * (j 1).val = (j 1).val; omega

variable {κ : Kind} {sp : Space} {e : EltTy} {Val : EltTy → Type} (v : View sig κ sp ⟨2, ![n, C]⟩ e)

theorem band_read (f : v.ty.Contents Val) (j : (⟨2, ![h, C]⟩ : Shape).Idx) :
    (v.slice (band inb)).read Val f j
      = v.read Val f (ix2 ⟨o + (j 0).val, lt_of_lt_of_le (Nat.add_lt_add_left (j 0).isLt o) (band_le inb)⟩ (j 1)) := by
  exact congrArg (v.read Val f) (band_emb inb j)

theorem band_write_in (f : v.ty.Contents Val) (w : (⟨2, ![h, C]⟩ : Shape).Idx → Val e) (i : (⟨2, ![n, C]⟩ : Shape).Idx)
    (h₁ : o ≤ (i 0).val) (h₂ : (i 0).val < o + h) :
    v.read Val ((v.slice (band inb)).write Val f w Finset.univ) i = w (ix2 ⟨(i 0).val - o, by omega⟩ (i 1)) := by
  have e : i = (band inb).emb (ix2 ⟨(i 0).val - o, by omega⟩ (i 1)) := by
    rw [band_emb]
    conv_lhs => rw [ValueIdx.eq_ix2 i]
    congr 1
    exact Fin.ext (show (i 0).val = o + ((i 0).val - o) by omega)
  conv_lhs => rw [e]
  exact View.read_slice_write_emb (band inb) f w (Finset.mem_univ _)

theorem band_write_out (f : v.ty.Contents Val) (w : (⟨2, ![h, C]⟩ : Shape).Idx → Val e) (i : (⟨2, ![n, C]⟩ : Shape).Idx)
    (h₁ : (i 0).val < o ∨ o + h ≤ (i 0).val) :
    v.read Val ((v.slice (band inb)).write Val f w Finset.univ) i = v.read Val f i := by
  refine View.read_slice_write_of_not_mem (band inb) f w Finset.univ fun hm => ?_
  obtain ⟨j, -, rfl⟩ := Finset.mem_map.mp hm
  have hj : (((band inb).emb j) 0).val = o + (j 0).val := by rw [band_emb]; rfl
  have hlt : (j 0).val < h := (j 0).isLt
  omega

end Rows

/-! ## A buffer whose contents are known on part of it -/

section Buffers
variable (c : Dev nD) {n C h o : ℕ} {sp : CoreSpace} {e : EltTy}

/-- The buffer `M` of device `c`, holding the values `A` at the places `P`. -/
def buf (M : Memref sig .tc sp ⟨2, ![n, C]⟩ e) (A : (⟨2, ![n, C]⟩ : Shape).Idx → Elt F e) (P : (⟨2, ![n, C]⟩ : Shape).Idx → Prop) : sProp 𝕄 :=
  iprop(∃ f : Buf (Elt F) (M.view.loc (c : Thread nD τ)), ⌜∀ i, P i → M.view.read (Elt F) f i = A i⌝ ∗ (M.view.loc (c : Thread nD τ) ↦{fullShare} f))

variable {M : Memref sig .tc sp ⟨2, ![n, C]⟩ e} {A : (⟨2, ![n, C]⟩ : Shape).Idx → Elt F e} {P P' : (⟨2, ![n, C]⟩ : Shape).Idx → Prop}

theorem buf_load {α : Type} {Q : α → sProp 𝕄} (inb : ∀ a, (![o, 0] : Fin 2 → ℕ) a + (![h, C] : Fin 2 → ℕ) a ≤ (⟨2, ![n, C]⟩ : Shape).size a) {hl : M.view.LoadsAt (band inb).toLoadRect} {w : (⟨2, ![h, C]⟩ : Shape).Idx → Elt F e}
    {k : ((⟨2, ![h, C]⟩ : Shape).Idx → Elt F e) → Prog (TpuEff nD τ sig (Elt F) Λ₀ .tc) α}
    (hw : ∀ j : (⟨2, ![h, C]⟩ : Shape).Idx, ∀ lt : o + (j 0).val < n, P (ix2 ⟨o + (j 0).val, lt⟩ (j 1)) ∧ A (ix2 ⟨o + (j 0).val, lt⟩ (j 1)) = w j) :
    buf c M A P ⊢ iprop((buf c M A P -∗ WP c (k w) Q) -∗ WP c (.op (.load M (band inb).toLoadRect hl) k) Q) := by
  unfold buf
  iintro ⟨%f, %hf, H⟩ Hk
  iapply (wp_load_rect 𝒱₀ (c : Thread nD τ) none Set.univ (m := M) (r := band inb) (S := Finset.univ) (f := f) (Finset.subset_univ _)) $$ [H]
  · iexact H
  iintro H
  have e : (M.access (band inb)).read (Elt F) f = w := by
    funext j
    exact (band_read (Val := Elt F) inb M.view f j).trans ((hf _ (hw j _).1).trans (hw j _).2)
  rw [e]
  iapply Hk
  iexists f
  isplitr
  · ipureintro; exact hf
  · iexact H

theorem buf_junk {α : Type} {Q : α → sProp 𝕄} {r : Rect ⟨2, ![n, C]⟩} {hl : M.view.LoadsAt r.toLoadRect}
    {k : (r.shape.Idx → Elt F e) → Prog (TpuEff nD τ sig (Elt F) Λ₀ .tc) α} :
    buf c M A P ⊢ iprop((∀ v, buf c M A P -∗ WP c (k v) Q) -∗ WP c (.op (.load M r.toLoadRect hl) k) Q) := by
  unfold buf
  iintro ⟨%f, %hf, H⟩ Hk
  iapply (wp_load_rect 𝒱₀ (c : Thread nD τ) none Set.univ (m := M) (r := r) (S := Finset.univ) (f := f) (Finset.subset_univ _)) $$ [H]
  · iexact H
  iintro H
  iapply Hk
  iexists f
  isplitr
  · ipureintro; exact hf
  · iexact H

theorem buf_store {α : Type} {Q : α → sProp 𝕄} (inb : ∀ a, (![o, 0] : Fin 2 → ℕ) a + (![h, C] : Fin 2 → ℕ) a ≤ (⟨2, ![n, C]⟩ : Shape).size a) {w : (⟨2, ![h, C]⟩ : Shape).Idx → Elt F e} {hx : (M.access (band inb)).Stores Finset.univ}
    {hm : (Finset.univ : Finset (band inb).shape.Idx) = Finset.univ ∨ ∀ a, (band inb).stride a = 1}
    {k : PUnit → Prog (TpuEff nD τ sig (Elt F) Λ₀ .tc) α}
    (hw : ∀ i : (⟨2, ![n, C]⟩ : Shape).Idx, ∀ lt : (i 0).val - o < h, o ≤ (i 0).val → w (ix2 ⟨(i 0).val - o, lt⟩ (i 1)) = A i)
    (hP : ∀ i : (⟨2, ![n, C]⟩ : Shape).Idx, P' i → P i ∨ (o ≤ (i 0).val ∧ (i 0).val < o + h)) :
    buf c M A P ⊢ iprop((buf c M A P' -∗ WP c (k ⟨⟩) Q) -∗ WP c (.op (.store M (band inb) w Finset.univ hx hm) k) Q) := by
  unfold buf
  iintro ⟨%f, %hf, H⟩ Hk
  iapply (wp_store 𝒱₀ (c : Thread nD τ) none Set.univ (m := M) (r := band inb) (w := w) (Mk := Finset.univ)
    (S := Finset.univ) (f := f) (Finset.subset_univ _)) $$ [H]
  · iexact H
  iintro H
  iapply Hk
  iexists ((M.access (band inb)).write (Elt F) f w Finset.univ)
  isplitr
  · ipureintro
    intro i hi
    by_cases hin : o ≤ (i 0).val ∧ (i 0).val < o + h
    · exact (band_write_in (Val := Elt F) inb M.view f w i hin.1 hin.2).trans (hw i _ hin.1)
    · exact (band_write_out (Val := Elt F) inb M.view f w i (by omega)).trans (hf i ((hP i hi).resolve_right hin))
  · iexact H

end Buffers

/-! ## The buffers -/

variable (m : (ℓ : Loc nD τ sig) → Buf (Elt F) ℓ) (c : Dev nD)

/-- The transposed block, when it is there. -/
def xtR (b : Bool) : sProp 𝕄 := buf (n := 512) (C := 512) c xtM (XT m c) fun _ => b = true
/-- The permuted block, its first `n` bands of 32 rows there. -/
def xpR (n : ℕ) : sProp 𝕄 := buf (n := 512) (C := 512) c xpM (XP m c) fun i => (i 0).val < 32 * n
/-- The local product, its 128-row pieces in `dn` there. -/
def accR (dn : List ℕ) : sProp 𝕄 := buf (n := 512) (C := 2048) c accM (ACC m c) fun i => (i 0).val / 128 ∈ dn
/-- The result block, its eight-row blocks in `od` there. -/
def outR (od : List ℕ) : sProp 𝕄 := buf (n := 32) (C := 2048) c outM (OUT m c) fun i => (i 0).val / 8 ∈ od
/-- The two input blocks. -/
def inX : sProp 𝕄 := buf (n := 512) (C := 512) c xM (X m c) fun _ => True
def inDY : sProp 𝕄 := buf (n := 512) (C := 2048) c dyM (DY m c) fun _ => True

/-- The buffers of device `c`: whether the transposed block is there, how many 32-row bands of the permuted one, which
    pieces of the product, which eight-row blocks of the result. -/
def Mem (b : Bool) (n : ℕ) (dn od : List ℕ) : sProp 𝕄 :=
  iprop(inX m c ∗ inDY m c ∗ xtR m c b ∗ xpR m c n ∗ accR m c dn ∗ outR m c od)

section Focus
variable {b : Bool} {n : ℕ} {dn od : List ℕ}

theorem focus_x : Mem m c b n dn od ⊢ iprop(inX m c ∗ (inX m c -∗ Mem m c b n dn od)) := by
  unfold Mem
  iintro ⟨H0, Hr⟩
  isplitl [H0]; · iexact H0
  iintro H0
  isplitl [H0]; · iexact H0
  iexact Hr
theorem focus_dy : Mem m c b n dn od ⊢ iprop(inDY m c ∗ (inDY m c -∗ Mem m c b n dn od)) := by
  unfold Mem
  iintro ⟨H0, H1, Hr⟩
  isplitl [H1]; · iexact H1
  iintro H1
  isplitl [H0]; · iexact H0
  isplitl [H1]; · iexact H1
  iexact Hr
theorem focus_xt (b' : Bool) : Mem m c b n dn od ⊢ iprop(xtR m c b ∗ (xtR m c b' -∗ Mem m c b' n dn od)) := by
  unfold Mem
  iintro ⟨H0, H1, H3, Hr⟩
  isplitl [H3]; · iexact H3
  iintro H3
  isplitl [H0]; · iexact H0
  isplitl [H1]; · iexact H1
  isplitl [H3]; · iexact H3
  iexact Hr
theorem focus_xp (n' : ℕ) : Mem m c b n dn od ⊢ iprop(xpR m c n ∗ (xpR m c n' -∗ Mem m c b n' dn od)) := by
  unfold Mem
  iintro ⟨H0, H1, H3, H4, Hr⟩
  isplitl [H4]; · iexact H4
  iintro H4
  isplitl [H0]; · iexact H0
  isplitl [H1]; · iexact H1
  isplitl [H3]; · iexact H3
  isplitl [H4]; · iexact H4
  iexact Hr
theorem focus_acc (dn' : List ℕ) : Mem m c b n dn od ⊢ iprop(accR m c dn ∗ (accR m c dn' -∗ Mem m c b n dn' od)) := by
  unfold Mem
  iintro ⟨H0, H1, H3, H4, H5, H2⟩
  isplitl [H5]; · iexact H5
  iintro H5
  isplitl [H0]; · iexact H0
  isplitl [H1]; · iexact H1
  isplitl [H3]; · iexact H3
  isplitl [H4]; · iexact H4
  isplitl [H5]; · iexact H5
  iexact H2
theorem focus_out (od' : List ℕ) : Mem m c b n dn od ⊢ iprop(outR m c od ∗ (outR m c od' -∗ Mem m c b n dn od')) := by
  unfold Mem
  iintro ⟨H0, H1, H3, H4, H5, H2⟩
  isplitl [H2]; · iexact H2
  iintro H2
  isplitl [H0]; · iexact H0
  isplitl [H1]; · iexact H1
  isplitl [H3]; · iexact H3
  isplitl [H4]; · iexact H4
  isplitl [H5]; · iexact H5
  iexact H2

end Focus

section Ops
variable {b : Bool} {n : ℕ} {dn od : List ℕ}

theorem ix2_zero {n₀ n₁ : ℕ} (j : (⟨2, ![n₀, n₁]⟩ : Shape).Idx) (h : 0 + (j 0).val < n₀) : ix2 ⟨0 + (j 0).val, h⟩ (j 1) = j := by
  conv_rhs => rw [ValueIdx.eq_ix2 j]
  congr 1
  exact Fin.ext (Nat.zero_add _)

theorem ix2_row {n₁ : ℕ} {β : Type} (A : (⟨2, ![512, n₁]⟩ : Shape).Idx → β) {r r' : ℕ} (lt : r < 512) (j : Fin n₁) (e : r = r') :
    A (ix2 ⟨r, lt⟩ j) = A (ix2 (row512 r') j) := by
  subst e
  exact congrArg (fun x => A (ix2 x j)) (Fin.ext (Nat.mod_eq_of_lt lt).symm)

/-- Loading the `x` block. -/
theorem step_x {R : sProp 𝕄} {α : Type} {Q : α → sProp 𝕄} {inb} {hl : xM.view.LoadsAt (Rect.unit (s := S512x512) ![0, 0] S512x512.size inb).toLoadRect}
    {k : (S512x512.Idx → Elt F .f32) → Prog (TpuEff nD τ sig (Elt F) Λ₀ .tc) α}
    (h : iprop(Mem m c b n dn od ∗ R) ⊢ WP c (k (X m c)) Q) :
    iprop(Mem m c b n dn od ∗ R) ⊢ WP c (.op (.load xM (Rect.unit (s := S512x512) ![0, 0] S512x512.size inb).toLoadRect hl) k) Q := by
  iintro ⟨HM, HR⟩
  ihave HM := (focus_x m c) $$ HM
  icases HM with ⟨H, Hback⟩
  unfold inX
  iapply (buf_load (n := 512) (C := 512) (h := 512) (o := 0) c (M := xM) (A := X m c) (P := fun _ => True) inb (w := X m c) ?hw) $$ [H]
  case hw =>
    exact fun j lt => ⟨trivial, congrArg _ (ix2_zero j lt)⟩
  · iexact H
  iintro H
  iapply h
  isplitr [HR]
  · iapply Hback; iexact H
  · iexact HR

/-- Loading the `dy` block. -/
theorem step_dy {R : sProp 𝕄} {α : Type} {Q : α → sProp 𝕄} {inb} {hl : dyM.view.LoadsAt (Rect.unit (s := S512x2048) ![0, 0] S512x2048.size inb).toLoadRect}
    {k : (S512x2048.Idx → Elt F .f32) → Prog (TpuEff nD τ sig (Elt F) Λ₀ .tc) α}
    (h : iprop(Mem m c b n dn od ∗ R) ⊢ WP c (k (DY m c)) Q) :
    iprop(Mem m c b n dn od ∗ R) ⊢ WP c (.op (.load dyM (Rect.unit (s := S512x2048) ![0, 0] S512x2048.size inb).toLoadRect hl) k) Q := by
  iintro ⟨HM, HR⟩
  ihave HM := (focus_dy m c) $$ HM
  icases HM with ⟨H, Hback⟩
  unfold inDY
  iapply (buf_load (n := 512) (C := 2048) (h := 512) (o := 0) c (M := dyM) (A := DY m c) (P := fun _ => True) inb (w := DY m c) ?hw) $$ [H]
  case hw =>
    exact fun j lt => ⟨trivial, congrArg _ (ix2_zero j lt)⟩
  · iexact H
  iintro H
  iapply h
  isplitr [HR]
  · iapply Hback; iexact H
  · iexact HR

/-! Loads whose value is not used. -/

theorem step_junk_xt {R : sProp 𝕄} {α : Type} {Q : α → sProp 𝕄} {r : Rect S512x512} {hl : xtM.view.LoadsAt r.toLoadRect}
    {k : (r.shape.Idx → Elt F .f32) → Prog (TpuEff nD τ sig (Elt F) Λ₀ .tc) α}
    (h : ∀ v, iprop(Mem m c b n dn od ∗ R) ⊢ WP c (k v) Q) :
    iprop(Mem m c b n dn od ∗ R) ⊢ WP c (.op (.load xtM r.toLoadRect hl) k) Q := by
  iintro ⟨HM, HR⟩
  ihave HM := (focus_xt m c b) $$ HM
  icases HM with ⟨H, Hback⟩
  unfold xtR
  iapply (buf_junk (n := 512) (C := 512) c (M := xtM) (A := XT m c) (P := fun _ => b = true)) $$ [H]
  · iexact H
  iintro %v H
  iapply (h v)
  isplitr [HR]
  · iapply Hback; iexact H
  · iexact HR

theorem step_junk_xp {R : sProp 𝕄} {α : Type} {Q : α → sProp 𝕄} {r : Rect S512x512} {hl : xpM.view.LoadsAt r.toLoadRect}
    {k : (r.shape.Idx → Elt F .f32) → Prog (TpuEff nD τ sig (Elt F) Λ₀ .tc) α}
    (h : ∀ v, iprop(Mem m c b n dn od ∗ R) ⊢ WP c (k v) Q) :
    iprop(Mem m c b n dn od ∗ R) ⊢ WP c (.op (.load xpM r.toLoadRect hl) k) Q := by
  iintro ⟨HM, HR⟩
  ihave HM := (focus_xp m c n) $$ HM
  icases HM with ⟨H, Hback⟩
  unfold xpR
  iapply (buf_junk (n := 512) (C := 512) c (M := xpM) (A := XP m c) (P := fun i => (i 0).val < 32 * n)) $$ [H]
  · iexact H
  iintro %v H
  iapply (h v)
  isplitr [HR]
  · iapply Hback; iexact H
  · iexact HR

theorem step_junk_acc {R : sProp 𝕄} {α : Type} {Q : α → sProp 𝕄} {r : Rect S512x2048} {hl : accM.view.LoadsAt r.toLoadRect}
    {k : (r.shape.Idx → Elt F .f32) → Prog (TpuEff nD τ sig (Elt F) Λ₀ .tc) α}
    (h : ∀ v, iprop(Mem m c b n dn od ∗ R) ⊢ WP c (k v) Q) :
    iprop(Mem m c b n dn od ∗ R) ⊢ WP c (.op (.load accM r.toLoadRect hl) k) Q := by
  iintro ⟨HM, HR⟩
  ihave HM := (focus_acc m c dn) $$ HM
  icases HM with ⟨H, Hback⟩
  unfold accR
  iapply (buf_junk (n := 512) (C := 2048) c (M := accM) (A := ACC m c) (P := fun i => (i 0).val / 128 ∈ dn)) $$ [H]
  · iexact H
  iintro %v H
  iapply (h v)
  isplitr [HR]
  · iapply Hback; iexact H
  · iexact HR

theorem step_junk_out {R : sProp 𝕄} {α : Type} {Q : α → sProp 𝕄} {r : Rect S32x2048} {hl : outM.view.LoadsAt r.toLoadRect}
    {k : (r.shape.Idx → Elt F .f32) → Prog (TpuEff nD τ sig (Elt F) Λ₀ .tc) α}
    (h : ∀ v, iprop(Mem m c b n dn od ∗ R) ⊢ WP c (k v) Q) :
    iprop(Mem m c b n dn od ∗ R) ⊢ WP c (.op (.load outM r.toLoadRect hl) k) Q := by
  iintro ⟨HM, HR⟩
  ihave HM := (focus_out m c od) $$ HM
  icases HM with ⟨H, Hback⟩
  unfold outR
  iapply (buf_junk (n := 32) (C := 2048) c (M := outM) (A := OUT m c) (P := fun i => (i 0).val / 8 ∈ od)) $$ [H]
  · iexact H
  iintro %v H
  iapply (h v)
  isplitr [HR]
  · iapply Hback; iexact H
  · iexact HR

/-- Storing the transposed block. -/
theorem step_store_xt {R : sProp 𝕄} {α : Type} {Q : α → sProp 𝕄} {inb} {w : FVec F S512x512 .f32}
    {hx : (xtM.access (Rect.unit (s := S512x512) ![0, 0] S512x512.size inb)).Stores Finset.univ}
    {hm : (Finset.univ : Finset (Rect.unit (s := S512x512) ![0, 0] S512x512.size inb).shape.Idx) = Finset.univ ∨ ∀ a, (Rect.unit (s := S512x512) ![0, 0] S512x512.size inb).stride a = 1}
    {k : PUnit → Prog (TpuEff nD τ sig (Elt F) Λ₀ .tc) α} (hw : w = XT m c)
    (h : iprop(Mem m c true n dn od ∗ R) ⊢ WP c (k ⟨⟩) Q) :
    iprop(Mem m c b n dn od ∗ R) ⊢ WP c (.op (.store xtM (Rect.unit (s := S512x512) ![0, 0] S512x512.size inb) w Finset.univ hx hm) k) Q := by
  subst hw
  iintro ⟨HM, HR⟩
  ihave HM := (focus_xt m c true) $$ HM
  icases HM with ⟨H, Hback⟩
  unfold xtR
  iapply (buf_store (n := 512) (C := 512) (h := 512) (o := 0) c (M := xtM) (A := XT m c) (P := fun _ => b = true) (P' := fun _ => true = true) inb (w := XT m c) ?hw ?hP) $$ [H]
  case hw =>
    intro i lt _
    refine congrArg (XT m c) ?_
    conv_rhs => rw [ValueIdx.eq_ix2 i]
    rfl
  case hP =>
    exact fun i _ => Or.inr ⟨Nat.zero_le _, by rw [Nat.zero_add]; exact (i 0).isLt⟩
  · iexact H
  iintro H
  iapply h
  isplitr [HR]
  · iapply Hback; iexact H
  · iexact HR

/-- Loading a band of the transposed block. -/
theorem step_xt_rows {R : sProp 𝕄} {α : Type} {Q : α → sProp 𝕄} (q : ℕ) {off : Fin 2 → ℕ} (hoff : off = ![32 * (ringAt (pos c + q + 6)).val, 0]) {inb} {hl : xtM.view.LoadsAt (Rect.unit (s := S512x512) off S32x512.size inb).toLoadRect}
    {k : (S32x512.Idx → Elt F .f32) → Prog (TpuEff nD τ sig (Elt F) Λ₀ .tc) α}
    (h : iprop(Mem m c true n dn od ∗ R) ⊢ WP c (k (xtRows m c q)) Q) :
    iprop(Mem m c true n dn od ∗ R) ⊢ WP c (.op (.load xtM (Rect.unit (s := S512x512) off S32x512.size inb).toLoadRect hl) k) Q := by
  subst hoff
  iintro ⟨HM, HR⟩
  ihave HM := (focus_xt m c true) $$ HM
  icases HM with ⟨H, Hback⟩
  unfold xtR
  iapply (buf_load (n := 512) (C := 512) (h := 32) (o := 32 * (ringAt (pos c + q + 6)).val) c (M := xtM) (A := XT m c) (P := fun _ => true = true) inb (w := xtRows m c q) ?hw) $$ [H]
  case hw =>
    intro j lt
    refine ⟨rfl, ix2_row _ _ _ rfl⟩
  · iexact H
  iintro H
  iapply h
  isplitr [HR]
  · iapply Hback; iexact H
  · iexact HR

/-- Storing the next band of the permuted block. -/
theorem step_store_xp {R : sProp 𝕄} {α : Type} {Q : α → sProp 𝕄} {o : ℕ} (ho : o = 32 * n) {inb} {w : FVec F S32x512 .f32}
    {hx : (xpM.access (Rect.unit (s := S512x512) ![o, 0] S32x512.size inb)).Stores Finset.univ}
    {hm : (Finset.univ : Finset (Rect.unit (s := S512x512) ![o, 0] S32x512.size inb).shape.Idx) = Finset.univ ∨ ∀ a, (Rect.unit (s := S512x512) ![o, 0] S32x512.size inb).stride a = 1}
    {k : PUnit → Prog (TpuEff nD τ sig (Elt F) Λ₀ .tc) α} (hw : w = xtRows m c n)
    (h : iprop(Mem m c b (n + 1) dn od ∗ R) ⊢ WP c (k ⟨⟩) Q) :
    iprop(Mem m c b n dn od ∗ R) ⊢ WP c (.op (.store xpM (Rect.unit (s := S512x512) ![o, 0] S32x512.size inb) w Finset.univ hx hm) k) Q := by
  subst ho
  subst hw
  iintro ⟨HM, HR⟩
  ihave HM := (focus_xp m c (n + 1)) $$ HM
  icases HM with ⟨H, Hback⟩
  unfold xpR
  iapply (buf_store (n := 512) (C := 512) (h := 32) (o := 32 * n) c (M := xpM) (A := XP m c) (P := fun i => (i 0).val < 32 * n) (P' := fun i => (i 0).val < 32 * (n + 1)) inb (w := xtRows m c n) ?hw ?hP) $$ [H]
  case hw =>
    intro i lt hle
    have e1 : (i 0).val / 32 = n := by omega
    have e2 : (i 0).val - 32 * n = (i 0).val % 32 := by omega
    unfold XP
    simp only [e1, e2]
  case hP =>
    intro i hi
    omega
  · iexact H
  iintro H
  iapply h
  isplitr [HR]
  · iapply Hback; iexact H
  · iexact HR

/-- Loading a piece of the permuted block. -/
theorem step_xp_piece {R : sProp 𝕄} {α : Type} {Q : α → sProp 𝕄} (p : ℕ) {o : ℕ} (ho : o = 128 * p) (hn : 16 ≤ n) {inb} {hl : xpM.view.LoadsAt (Rect.unit (s := S512x512) ![o, 0] S128x512.size inb).toLoadRect}
    {k : (S128x512.Idx → Elt F .f32) → Prog (TpuEff nD τ sig (Elt F) Λ₀ .tc) α}
    (h : iprop(Mem m c b n dn od ∗ R) ⊢ WP c (k (xpPiece m c p)) Q) :
    iprop(Mem m c b n dn od ∗ R) ⊢ WP c (.op (.load xpM (Rect.unit (s := S512x512) ![o, 0] S128x512.size inb).toLoadRect hl) k) Q := by
  iintro ⟨HM, HR⟩
  ihave HM := (focus_xp m c n) $$ HM
  icases HM with ⟨H, Hback⟩
  unfold xpR
  iapply (buf_load (n := 512) (C := 512) (h := 128) (o := o) c (M := xpM) (A := XP m c) (P := fun i => (i 0).val < 32 * n) inb (w := xpPiece m c p) ?hw) $$ [H]
  case hw =>
    intro j lt
    have h' : (o : ℕ) + (j 0).val < 512 := lt
    subst ho
    refine ⟨show 128 * p + (j 0).val < 32 * n by omega, ix2_row _ _ _ rfl⟩
  · iexact H
  iintro H
  iapply h
  isplitr [HR]
  · iapply Hback; iexact H
  · iexact HR

/-- Storing a piece of the product. -/
theorem step_store_acc {R : sProp 𝕄} {α : Type} {Q : α → sProp 𝕄} (p : ℕ) {o : ℕ} (ho : o = 128 * p) {inb} {w : FVec F S128x2048 .f32}
    {hx : (accM.access (Rect.unit (s := S512x2048) ![o, 0] S128x2048.size inb)).Stores Finset.univ}
    {hm : (Finset.univ : Finset (Rect.unit (s := S512x2048) ![o, 0] S128x2048.size inb).shape.Idx) = Finset.univ ∨ ∀ a, (Rect.unit (s := S512x2048) ![o, 0] S128x2048.size inb).stride a = 1}
    {k : PUnit → Prog (TpuEff nD τ sig (Elt F) Λ₀ .tc) α} (hw : w = accPiece m c p)
    (h : iprop(Mem m c b n (p :: dn) od ∗ R) ⊢ WP c (k ⟨⟩) Q) :
    iprop(Mem m c b n dn od ∗ R) ⊢ WP c (.op (.store accM (Rect.unit (s := S512x2048) ![o, 0] S128x2048.size inb) w Finset.univ hx hm) k) Q := by
  subst ho
  subst hw
  iintro ⟨HM, HR⟩
  ihave HM := (focus_acc m c (p :: dn)) $$ HM
  icases HM with ⟨H, Hback⟩
  unfold accR
  iapply (buf_store (n := 512) (C := 2048) (h := 128) (o := 128 * p) c (M := accM) (A := ACC m c) (P := fun i => (i 0).val / 128 ∈ dn) (P' := fun i => (i 0).val / 128 ∈ p :: dn) inb (w := accPiece m c p) ?hw ?hP) $$ [H]
  case hw =>
    intro i lt hle
    have e1 : (i 0).val / 128 = p := by omega
    have e2 : (i 0).val - 128 * p = (i 0).val % 128 := by omega
    unfold ACC
    simp only [e1, e2]
  case hP =>
    intro i hi
    rcases List.mem_cons.mp hi with hp | hd
    · exact Or.inr (by omega)
    · exact Or.inl hd
  · iexact H
  iintro H
  iapply h
  isplitr [HR]
  · iapply Hback; iexact H
  · iexact HR

/-- Loading eight rows of the product. -/
theorem step_acc_rows {R : sProp 𝕄} {α : Type} {Q : α → sProp 𝕄} {o : ℕ} (ho : o % 128 ≤ 120 ∧ o / 128 ∈ dn) {inb} {hl : accM.view.LoadsAt (Rect.unit (s := S512x2048) ![o, 0] S8x2048.size inb).toLoadRect}
    {k : (S8x2048.Idx → Elt F .f32) → Prog (TpuEff nD τ sig (Elt F) Λ₀ .tc) α}
    (h : iprop(Mem m c b n dn od ∗ R) ⊢ WP c (k (rowsA m c o)) Q) :
    iprop(Mem m c b n dn od ∗ R) ⊢ WP c (.op (.load accM (Rect.unit (s := S512x2048) ![o, 0] S8x2048.size inb).toLoadRect hl) k) Q := by
  iintro ⟨HM, HR⟩
  ihave HM := (focus_acc m c dn) $$ HM
  icases HM with ⟨H, Hback⟩
  unfold accR
  iapply (buf_load (n := 512) (C := 2048) (h := 8) (o := o) c (M := accM) (A := ACC m c) (P := fun i => (i 0).val / 128 ∈ dn) inb (w := rowsA m c o) ?hw) $$ [H]
  case hw =>
    intro j lt
    have hj : (j 0).val < 8 := (j 0).isLt
    refine ⟨show (o + (j 0).val) / 128 ∈ dn from ?_, ix2_row _ _ _ rfl⟩
    rw [show (o + (j 0).val) / 128 = o / 128 by omega]
    exact ho.2
  · iexact H
  iintro H
  iapply h
  isplitr [HR]
  · iapply Hback; iexact H
  · iexact HR

/-- Storing eight rows of the result. -/
theorem step_store_out {R : sProp 𝕄} {α : Type} {Q : α → sProp 𝕄} (q : ℕ) {o : ℕ} (ho : o = 8 * q) {inb} {w : FVec F S8x2048 .f32}
    {hx : (outM.access (Rect.unit (s := S32x2048) ![o, 0] S8x2048.size inb)).Stores Finset.univ}
    {hm : (Finset.univ : Finset (Rect.unit (s := S32x2048) ![o, 0] S8x2048.size inb).shape.Idx) = Finset.univ ∨ ∀ a, (Rect.unit (s := S32x2048) ![o, 0] S8x2048.size inb).stride a = 1}
    {k : PUnit → Prog (TpuEff nD τ sig (Elt F) Λ₀ .tc) α} (hw : w = outRows m c q)
    (h : iprop(Mem m c b n dn (q :: od) ∗ R) ⊢ WP c (k ⟨⟩) Q) :
    iprop(Mem m c b n dn od ∗ R) ⊢ WP c (.op (.store outM (Rect.unit (s := S32x2048) ![o, 0] S8x2048.size inb) w Finset.univ hx hm) k) Q := by
  subst ho
  subst hw
  iintro ⟨HM, HR⟩
  ihave HM := (focus_out m c (q :: od)) $$ HM
  icases HM with ⟨H, Hback⟩
  unfold outR
  iapply (buf_store (n := 32) (C := 2048) (h := 8) (o := 8 * q) c (M := outM) (A := OUT m c) (P := fun i => (i 0).val / 8 ∈ od) (P' := fun i => (i 0).val / 8 ∈ q :: od) inb (w := outRows m c q) ?hw ?hP) $$ [H]
  case hw =>
    intro i lt hle
    have e1 : (i 0).val / 8 = q := by omega
    have e2 : (i 0).val - 8 * q = (i 0).val % 8 := by omega
    unfold OUT
    simp only [e1, e2]
  case hP =>
    intro i hi
    rcases List.mem_cons.mp hi with hp | hd
    · exact Or.inr (by omega)
    · exact Or.inl hd
  · iexact H
  iintro H
  iapply h
  isplitr [HR]
  · iapply Hback; iexact H
  · iexact HR

end Ops

end Cert.KernelIdeal.Stream

end
-- ==== Proof.KernelIdeal.Open.lean ====
/-
The run of the kernel on one device: the preparation of the product's first piece and of the eight start places.
-/
module

public import proofs.«01_k».proof.Proof.KernelIdeal.Local

@[expose] public section

set_option maxRecDepth 16384

noncomputable section

namespace Cert.KernelIdeal.Stream

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ UU ℕ

/-! ## Opening a program -/

theorem opened {c : Dev nD} {α : Type} {Q : α → sProp 𝕄} {P : sProp 𝕄} {p p' : Prog (TpuEff nD τ sig (Elt F) Λ₀ .tc) α}
    (e : p = p') (h : P ⊢ WP c p' Q) : P ⊢ WP c p Q := e ▸ h

theorem seq {c : Dev nD} {α β : Type} {Q : β → sProp 𝕄} {P : sProp 𝕄} {R : α → sProp 𝕄} {p : Prog (TpuEff nD τ sig (Elt F) Λ₀ .tc) α}
    {k : α → Prog (TpuEff nD τ sig (Elt F) Λ₀ .tc) β}
    (h : P ⊢ WP c p R) (hk : ∀ a, R a ⊢ WP c (k a) Q) : P ⊢ WP c (p >>= k) Q := by
  unfold WP
  rw [wp_bind]
  exact h.trans (wp_mono _ _ _ hk)

/-- A part that only computes. -/
theorem pure_part {c : Dev nD} {α β : Type} {Q : β → sProp 𝕄} {P : sProp 𝕄} {p : Prog (TpuEff nD τ sig (Elt F) Λ₀ .tc) α}
    {k : α → Prog (TpuEff nD τ sig (Elt F) Λ₀ .tc) β}
    (hp : ∃ r, p = .ret r) (h : ∀ r, P ⊢ WP c (k r) Q) : P ⊢ WP c (p >>= k) Q := by
  obtain ⟨r, rfl⟩ := hp
  exact h r

/-- The part that asks for the device's number. -/
theorem device_part {c : Dev nD} {α β : Type} {Q : β → sProp 𝕄} {P : sProp 𝕄} {p : Prog (TpuEff nD τ sig (Elt F) Λ₀ .tc) α}
    {k : α → Prog (TpuEff nD τ sig (Elt F) Λ₀ .tc) β} (g : Dev nD → α)
    (hp : p = .op .deviceId (fun d => .ret (g d))) (h : P ⊢ WP c (k (g c)) Q) : P ⊢ WP c (p >>= k) Q := by
  subst hp
  unfold WP at h ⊢
  rw [Prog.bind_op, wp_deviceId]
  exact h

theorem finish {c : Dev nD} {α : Type} {Q : α → sProp 𝕄} {P : sProp 𝕄} {a : α} (h : P ⊢ Q a) : P ⊢ WP c (.ret a) Q :=
  h.trans fupd_intro

variable (m : (ℓ : Loc nD τ sig) → Buf (Elt F) ℓ) (K : Dev nD × Cell → ℕ) (c : Dev nD)

theorem off_table : ∀ (c : Dev nD) (r : Fin 16),
    k0_off1 c (k0_off1_at r).1 (k0_off1_at r).2.1 (k0_off1_at r).2.2.1 (k0_off1_at r).2.2.2.1 (k0_off1_at r).2.2.2.2.1 (k0_off1_at r).2.2.2.2.2.1
      (k0_off1_at r).2.2.2.2.2.2.1 (k0_off1_at r).2.2.2.2.2.2.2.1 (k0_off1_at r).2.2.2.2.2.2.2.2.1 (k0_off1_at r).2.2.2.2.2.2.2.2.2.1
      (k0_off1_at r).2.2.2.2.2.2.2.2.2.2.1 (k0_off1_at r).2.2.2.2.2.2.2.2.2.2.2.1 (k0_off1_at r).2.2.2.2.2.2.2.2.2.2.2.2.1
      (k0_off1_at r).2.2.2.2.2.2.2.2.2.2.2.2.2.1 (k0_off1_at r).2.2.2.2.2.2.2.2.2.2.2.2.2.2.1 (k0_off1_at r).2.2.2.2.2.2.2.2.2.2.2.2.2.2.2
      = ![32 * (ringAt (pos c + r.val + 6)).val, 0] := by decide +kernel

/-- The device's number and the tables of ring places. -/
theorem tables {A0 hA0 A1 hA1 A2 hA2 A3 hA3 A4 hA4 A5 hA5 A6 hA6 A7 hA7 A8 A9} {β : Type} {Q : β → sProp 𝕄} {P : sProp 𝕄}
    {k : _ → Prog (TpuEff nD τ sig (Elt F) Λ₀ .tc) β}
    (h : ∀ r, r.1 = c → P ⊢ WP c (k r) Q) : P ⊢ WP c (k0_part1 (F := F) A0 hA0 A1 hA1 A2 hA2 A3 hA3 A4 hA4 A5 hA5 A6 hA6 A7 hA7 A8 A9 >>= k) Q := by
  rw [k0_part1_eq_skeleton]
  exact device_part (g := _) rfl (h _ rfl)

/-- Loading the next band of the transposed block. -/
theorem step_xt_next {R : sProp 𝕄} {α : Type} {Q : α → sProp 𝕄} {n : ℕ} {dn od : List ℕ} {off : Fin 2 → ℕ} (hn : n < 16)
    (hoff : off = k0_off1 c (k0_off1_at ⟨n, hn⟩).1 (k0_off1_at ⟨n, hn⟩).2.1 (k0_off1_at ⟨n, hn⟩).2.2.1 (k0_off1_at ⟨n, hn⟩).2.2.2.1 (k0_off1_at ⟨n, hn⟩).2.2.2.2.1 (k0_off1_at ⟨n, hn⟩).2.2.2.2.2.1
      (k0_off1_at ⟨n, hn⟩).2.2.2.2.2.2.1 (k0_off1_at ⟨n, hn⟩).2.2.2.2.2.2.2.1 (k0_off1_at ⟨n, hn⟩).2.2.2.2.2.2.2.2.1 (k0_off1_at ⟨n, hn⟩).2.2.2.2.2.2.2.2.2.1
      (k0_off1_at ⟨n, hn⟩).2.2.2.2.2.2.2.2.2.2.1 (k0_off1_at ⟨n, hn⟩).2.2.2.2.2.2.2.2.2.2.2.1 (k0_off1_at ⟨n, hn⟩).2.2.2.2.2.2.2.2.2.2.2.2.1
      (k0_off1_at ⟨n, hn⟩).2.2.2.2.2.2.2.2.2.2.2.2.2.1 (k0_off1_at ⟨n, hn⟩).2.2.2.2.2.2.2.2.2.2.2.2.2.2.1 (k0_off1_at ⟨n, hn⟩).2.2.2.2.2.2.2.2.2.2.2.2.2.2.2)
    {inb} {hl : xtM.view.LoadsAt (Rect.unit (s := S512x512) off S32x512.size inb).toLoadRect}
    {k : (S32x512.Idx → Elt F .f32) → Prog (TpuEff nD τ sig (Elt F) Λ₀ .tc) α}
    (h : iprop(Mem m c true n dn od ∗ R) ⊢ WP c (k (xtRows m c n)) Q) :
    iprop(Mem m c true n dn od ∗ R) ⊢ WP c (.op (.load xtM (Rect.unit (s := S512x512) off S32x512.size inb).toLoadRect hl) k) Q :=
  step_xt_rows m c n (hoff.trans (off_table c ⟨n, hn⟩)) h

/-! ## The values added -/

/-- The message sent on: the message received, with eight rows of the product added. -/
theorem add_up (v : FVec F S8x2048 .bf16) (a : FVec F S8x2048 .f32) : k0_pay30 (up v) a = up (addRows v a) := by
  unfold k0_pay30 addRows
  simp only [shapeCast_up]
  rfl

/-- A result block: eight rows of the product and the last messages of two streams. -/
theorem out_up (a : FVec F S8x2048 .f32) (v w : FVec F S8x2048 .bf16) :
    k0_pay96 a (up v) (up w) = addf (addf a (extf .f32 v bitsLt_bf16_f32)) (extf .f32 w bitsLt_bf16_f32) := by
  unfold k0_pay96
  simp only [shapeCast_up]

/-- What device `c` holds when `a` messages have left and `b` have arrived, with `stk` to send from. -/
def At (dn od : List ℕ) (a b : ℕ) (stk : List Ent) : sProp 𝕄 :=
  iprop(Mem m c true 16 dn od ∗ Sync m K c (order.drop a) (order.drop b) (order.take a).reverse stk
    (((order.take b).map fun i => some (true, i)).reverse ++ [none]))

/-- The places still held when every message has arrived, and the semaphores done with by then. -/
def lastLands : List Ent :=
  [.land (2, 7, 1), .land (2, 7, 0), .land (0, 7, 1), .land (0, 7, 0), .land (3, 6, 1), .land (3, 6, 0), .land (1, 6, 1), .land (1, 6, 0)]
def arrived : List Cell := (order.map fun i => some (true, i)).reverse ++ [none]

/-- What device `c` holds when the result is written and `a` departures are waited for. -/
def Done (a : ℕ) : sProp 𝕄 :=
  iprop(Mem m c true 16 [2, 3, 1, 0] [3, 1, 2, 0] ∗ Sync m K c [] [] (order.drop a) (((order.take a).map srcE).reverse ++ lastLands)
    (((order.take a).map fun i => some (false, i)).reverse ++ arrived))

/-- The departures, in the order they are waited for. -/
theorem sends_order {M P : sProp 𝕄} {starts waits sends : List Slot} {stk : List Ent} {cl : List Cell} (hr : sends = order.reverse)
    (h : iprop(M ∗ Sync m K c starts waits order stk cl) ⊢ P) : iprop(M ∗ Sync m K c starts waits sends stk cl) ⊢ P := by
  subst hr
  exact sends_reverse m K c (by rw [List.reverse_reverse]; exact h)

theorem into_barrier {M : sProp 𝕄} {stk : List Ent} {α : Type} {Q : α → sProp 𝕄} {p : Prog (TpuEff nD τ sig (Elt F) Λ₀ .tc) α}
    (h : iprop(M ∗ Bar0 m K c stk) ⊢ WP c p Q) : iprop(M ∗ Heads m c [] stk ∗ Bar0 m K c []) ⊢ WP c p Q := by
  refine BIBase.Entails.trans ?_ h
  unfold Heads Bar0 Held
  iintro ⟨HM, ⟨-, Hstk⟩, HR, HO, H1, H2, Ha, Hb, Hc, Hd, -⟩
  isplitl [HM]; · iexact HM
  isplitl [HR]; · iexact HR
  isplitl [HO]; · iexact HO
  isplitl [H1]; · iexact H1
  isplitl [H2]; · iexact H2
  isplitl [Ha]; · iexact Ha
  isplitl [Hb]; · iexact Hb
  isplitl [Hc]; · iexact Hc
  isplitl [Hd]; · iexact Hd
  iexact Hstk

end Cert.KernelIdeal.Stream

end
-- ==== Proof.KernelIdeal.First.lean ====
/-
The run of the kernel on one device, first half.
-/
module

public import proofs.«01_k».proof.Proof.KernelIdeal.Open

@[expose] public section

set_option maxRecDepth 16384

noncomputable section

namespace Cert.KernelIdeal.Stream

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ) (c : Dev nD)

set_option maxHeartbeats 0 in
/-- The run up to the middle of the kernel. -/
theorem first_half {hA0 hA1 hA2 hA3 hA4 hA5 hA6 hA7} {Q : (Σ' (d0 : Dev nD) (v65 : BitVec 32), BitVec 32) → sProp 𝕄}
    (hQ : ∀ r, r.1 = c → At m K c [2, 3, 1, 0] [] 35 27 [] ⊢ Q r) :
    iprop(Mem m c false 0 [] [] ∗ Heads m c [(0,0), (0,1), (1,0), (1,1), (2,0), (2,1), (3,0), (3,1)] [] ∗ Bar0 m K c [])
      ⊢ WP c (k0_part122 (F := F) xM hA0 dyM hA1 outM hA2 xtM hA3 xpM hA4 accM hA5 headM hA6 commM hA7 cc0_scratch5 cc0_scratch6) Q := by
  rw [k0_part122_eq_skeleton]
  unfold k0_part122_skel
  refine tables c ?_
  rintro ⟨d0, v4, v6, v8, v10, v12, v14, v16, v18, v20, v22, v24, v26, v28, v30, v32, v34, v37, c9⟩ hd
  obtain rfl : d0 = c := hd
  iterate 14 refine pure_part ⟨_, rfl⟩ fun _ => ?_
  refine opened (p' := .op _ _) rfl (step_x m d0 ?_)
  refine opened (p' := .op _ _) rfl (step_junk_xt m d0 fun _ => ?_)
  refine opened (p' := .op _ _) rfl (step_store_xt m d0 rfl ?_)
  iterate 16 (
    refine opened (p' := .op _ _) rfl (step_xt_next m d0 (by decide) rfl ?_)
    refine opened (p' := .op _ _) rfl (step_junk_xp m d0 fun _ => ?_)
    refine opened (p' := .op _ _) rfl (step_store_xp m d0 rfl (shapeCast_self _ _) ?_))
  refine opened (p' := .op _ _) rfl (step_xp_piece m d0 0 rfl (by decide) ?_)
  refine opened (p' := .op _ _) rfl (step_dy m d0 ?_)
  refine opened (p' := .op _ _) rfl (step_junk_acc m d0 fun _ => ?_)
  refine opened (p' := .op _ _) rfl (step_store_acc m d0 0 rfl rfl ?_)
  iterate 8 (
    refine opened (p' := .op _ _) rfl (step_acc_rows m d0 (by decide) ?_)
    refine opened (p' := .op _ _) rfl (step_load_head m d0 fun _ => ?_)
    refine opened (p' := .op _ _) rfl (step_store_head m d0 rfl ?_))
  refine into_barrier m K d0 ?_
  refine opened (p' := .op _ _) rfl (step_signal_prv m K d0 (by clear hQ; revert d0; decide +kernel) ?_)
  refine opened (p' := .op _ _) rfl (step_signal_nxt m K d0 (by clear hQ; revert d0; decide +kernel) ?_)
  refine opened (p' := .op _ _) rfl (step_bar_wait m K d0 (stk' := [.head 0 0, .head 0 1, .head 1 0, .head 1 1, .head 2 0, .head 2 1, .head 3 0, .head 3 1]) (by decide) ?_)
  unfold order
  iterate 8 (
    refine opened (p' := .op _ _) rfl (step_start m K d0 (by clear hQ; revert d0; decide +kernel) rfl ?_))
  refine opened (p' := .op _ _) rfl (step_xp_piece m d0 1 rfl (by decide) ?_)
  refine opened (p' := .op _ _) rfl (step_dy m d0 ?_)
  refine opened (p' := .op _ _) rfl (step_junk_acc m d0 fun _ => ?_)
  refine opened (p' := .op _ _) rfl (step_store_acc m d0 1 rfl rfl ?_)
  iterate 8 (
    refine opened (p' := .op _ _) rfl (step_recv m K d0 rfl rfl (by decide) ?_)
    refine opened (p' := .op _ _) rfl (step_load_top m K d0 ?_)
    refine opened (p' := .op _ _) rfl (step_acc_rows m d0 (by decide) ?_)
    refine opened (p' := .op _ _) rfl (step_load_top m K d0 ?_)
    refine opened (p' := .op _ _) rfl (step_store_top m K d0 (add_up _ _) ?_)
    refine opened (p' := .op _ _) rfl (step_start m K d0 (by clear hQ; revert d0; decide +kernel) rfl ?_))
  refine opened (p' := .op _ _) rfl (step_xp_piece m d0 3 rfl (by decide) ?_)
  refine opened (p' := .op _ _) rfl (step_dy m d0 ?_)
  refine opened (p' := .op _ _) rfl (step_junk_acc m d0 fun _ => ?_)
  refine opened (p' := .op _ _) rfl (step_store_acc m d0 3 rfl rfl ?_)
  iterate 8 (
    refine opened (p' := .op _ _) rfl (step_recv m K d0 rfl rfl (by decide) ?_)
    refine opened (p' := .op _ _) rfl (step_load_top m K d0 ?_)
    refine opened (p' := .op _ _) rfl (step_acc_rows m d0 (by decide) ?_)
    refine opened (p' := .op _ _) rfl (step_load_top m K d0 ?_)
    refine opened (p' := .op _ _) rfl (step_store_top m K d0 (add_up _ _) ?_)
    refine opened (p' := .op _ _) rfl (step_start m K d0 (by clear hQ; revert d0; decide +kernel) rfl ?_))
  refine opened (p' := .op _ _) rfl (step_xp_piece m d0 2 rfl (by decide) ?_)
  refine opened (p' := .op _ _) rfl (step_dy m d0 ?_)
  refine opened (p' := .op _ _) rfl (step_junk_acc m d0 fun _ => ?_)
  refine opened (p' := .op _ _) rfl (step_store_acc m d0 2 rfl rfl ?_)
  iterate 11 (
    refine opened (p' := .op _ _) rfl (step_recv m K d0 rfl rfl (by decide) ?_)
    refine opened (p' := .op _ _) rfl (step_load_top m K d0 ?_)
    refine opened (p' := .op _ _) rfl (step_acc_rows m d0 (by decide) ?_)
    refine opened (p' := .op _ _) rfl (step_load_top m K d0 ?_)
    refine opened (p' := .op _ _) rfl (step_store_top m K d0 (add_up _ _) ?_)
    refine opened (p' := .op _ _) rfl (step_start m K d0 (by clear hQ; revert d0; decide +kernel) rfl ?_))
  refine opened (p' := .ret _) rfl (finish (hQ _ rfl))

end Cert.KernelIdeal.Stream

end
-- ==== Proof.KernelIdeal.Second.lean ====
/-
The run of the kernel on one device, second half.
-/
module

public import proofs.«01_k».proof.Proof.KernelIdeal.Open

@[expose] public section

set_option maxRecDepth 16384

noncomputable section

namespace Cert.KernelIdeal.Stream

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ) (c : Dev nD)

set_option maxHeartbeats 0 in
/-- The run from the middle of the kernel to the last departures. -/
theorem second_half {hA0 hA1 hA2 hA3 hA4 hA5 hA6 hA7} {v65 v96 : BitVec 32} {Q : PUnit → sProp 𝕄} (hQ : Done m K c 56 ⊢ Q ⟨⟩) :
    At m K c [2, 3, 1, 0] [] 35 27 [] ⊢ WP c (k0_part123 (F := F) xM hA0 dyM hA1 outM hA2 xtM hA3 xpM hA4 accM hA5 headM hA6 commM hA7 cc0_scratch5 cc0_scratch6 c v65 v96) Q := by
  rw [k0_part123_eq_skeleton]
  unfold k0_part123_skel At order
  iterate 23 (
    refine opened (p' := .op _ _) rfl (step_recv m K c rfl rfl (by decide) ?_)
    refine opened (p' := .op _ _) rfl (step_load_top m K c ?_)
    refine opened (p' := .op _ _) rfl (step_acc_rows m c (by decide) ?_)
    refine opened (p' := .op _ _) rfl (step_load_top m K c ?_)
    refine opened (p' := .op _ _) rfl (step_store_top m K c (add_up _ _) ?_)
    refine opened (p' := .op _ _) rfl (step_start m K c (by clear hQ; revert c; decide +kernel) rfl ?_))
  iterate 2 (
    refine opened (p' := .op _ _) rfl (step_recv m K c rfl rfl (by decide) ?_))
  iterate 2 (
    refine opened (p' := .op _ _) rfl (step_recv m K c rfl rfl (by decide) ?_)
    refine opened (p' := .op _ _) rfl (step_load_top m K c ?_)
    refine opened (p' := .op _ _) rfl (step_acc_rows m c (by decide) ?_)
    refine opened (p' := .op _ _) rfl (step_load_top m K c ?_)
    refine opened (p' := .op _ _) rfl (step_store_top m K c (add_up _ _) ?_)
    refine opened (p' := .op _ _) rfl (step_start m K c (by clear hQ; revert c; decide +kernel) rfl ?_))
  iterate 6 (
    refine opened (p' := .op _ _) rfl (step_recv m K c rfl rfl (by decide) ?_))
  refine opened (p' := .op _ _) rfl (step_acc_rows m c (by decide) ?_)
  refine opened (p' := .op _ _) rfl (step_load_comm m K c (0, 7, 0) (by decide) ?_)
  refine opened (p' := .op _ _) rfl (step_load_comm m K c (1, 6, 0) (by decide) ?_)
  refine opened (p' := .op _ _) rfl (step_junk_out m c fun _ => ?_)
  refine opened (p' := .op _ _) rfl (step_store_out m c 0 rfl (out_up _ _ _) ?_)
  refine opened (p' := .op _ _) rfl (step_acc_rows m c (by decide) ?_)
  refine opened (p' := .op _ _) rfl (step_load_comm m K c (2, 7, 0) (by decide) ?_)
  refine opened (p' := .op _ _) rfl (step_load_comm m K c (3, 6, 0) (by decide) ?_)
  refine opened (p' := .op _ _) rfl (step_junk_out m c fun _ => ?_)
  refine opened (p' := .op _ _) rfl (step_store_out m c 2 rfl (out_up _ _ _) ?_)
  refine opened (p' := .op _ _) rfl (step_acc_rows m c (by decide) ?_)
  refine opened (p' := .op _ _) rfl (step_load_comm m K c (0, 7, 1) (by decide) ?_)
  refine opened (p' := .op _ _) rfl (step_load_comm m K c (1, 6, 1) (by decide) ?_)
  refine opened (p' := .op _ _) rfl (step_junk_out m c fun _ => ?_)
  refine opened (p' := .op _ _) rfl (step_store_out m c 1 rfl (out_up _ _ _) ?_)
  refine opened (p' := .op _ _) rfl (step_acc_rows m c (by decide) ?_)
  refine opened (p' := .op _ _) rfl (step_load_comm m K c (2, 7, 1) (by decide) ?_)
  refine opened (p' := .op _ _) rfl (step_load_comm m K c (3, 6, 1) (by decide) ?_)
  refine opened (p' := .op _ _) rfl (step_junk_out m c fun _ => ?_)
  refine opened (p' := .op _ _) rfl (step_store_out m c 3 rfl (out_up _ _ _) ?_)
  refine sends_order m K c rfl ?_
  unfold order
  iterate 56 (
    refine opened (p' := .op _ _) rfl (step_sent m K c rfl rfl ?_))
  refine opened (p' := .ret _) rfl (finish hQ)

end Cert.KernelIdeal.Stream

end
-- ==== Proof.KernelIdeal.Body.lean ====
/-
The run of the kernel's body on one device.
-/
module

public import proofs.«01_k».proof.Proof.KernelIdeal.First
public import proofs.«01_k».proof.Proof.KernelIdeal.Second

@[expose] public section

set_option maxRecDepth 16384

noncomputable section

namespace Cert.KernelIdeal.Stream

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ) (c : Dev nD)

set_option maxHeartbeats 0 in
/-- The body, from the resources at its start to those at its end. -/
theorem body_run {hA0 hA1 hA2 hA3 hA4 hA5 hA6 hA7} {Q : PUnit → sProp 𝕄} (hQ : Done m K c 60 ⊢ Q ⟨⟩) :
    iprop(Mem m c false 0 [] [] ∗ Heads m c [(0,0), (0,1), (1,0), (1,1), (2,0), (2,1), (3,0), (3,1)] [] ∗ Bar0 m K c [])
      ⊢ WP c (cc0_body (F := F) xM hA0 dyM hA1 outM hA2 xtM hA3 xpM hA4 accM hA5 headM hA6 commM hA7 cc0_scratch5 cc0_scratch6) Q := by
  rw [cc0_body_eq_skeleton]
  unfold cc0_body_skel
  refine seq (R := fun r => WP c _ Q) (first_half m K c ?_) fun _ => .rfl
  rintro ⟨d, v65, v96⟩ hd
  obtain rfl : d = c := hd
  refine seq (R := fun _ => WP d _ Q) (second_half m K d ?_) fun _ => .rfl
  rw [k0_part121_eq_skeleton]
  unfold k0_part121_skel Done order
  iterate 4 (
    refine opened (p' := .op _ _) rfl (step_sent m K d rfl rfl ?_))
  refine opened (p' := .ret _) rfl (finish hQ)

end Cert.KernelIdeal.Stream

end
-- ==== Proof.KernelIdeal.Places.lean ====
/-
The start buffer and the landing buffer as the places they are made of.
-/
module

public import proofs.«01_k».proof.Proof.KernelIdeal.Open

@[expose] public section

set_option maxRecDepth 16384

noncomputable section

namespace Cert.KernelIdeal.Stream

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## The landing places -/

theorem comm_set (i : Slot) : (cS i).view.set = ((rC i).set : Finset (S4x8x2x8x2048.Idx)) :=
  (View.set_reshape _ _).trans ((View.set_slice _ _).trans (by ext x; exact ⟨fun h => by
    obtain ⟨y, hy, rfl⟩ := Finset.mem_map.mp h; exact hy, fun h => Finset.mem_map.mpr ⟨x, h, rfl⟩⟩))

theorem comm_disjoint {i i' : Slot} (h : i ≠ i') : Disjoint (rC i).set (rC i').set := by
  obtain ⟨t, n, s⟩ := i
  obtain ⟨t', n', s'⟩ := i'
  by_cases h0 : t = t'
  · by_cases h1 : n = n'
    · have h2 : s ≠ s' := fun e => h (by rw [h0, h1, e])
      have h2' : s.val ≠ s'.val := fun e => h2 (Fin.ext e)
      exact Rect.unit_disjoint (2 : Fin 5) (by show s.val + 1 ≤ s'.val ∨ s'.val + 1 ≤ s.val; omega)
    · have h1' : n.val ≠ n'.val := fun e => h1 (Fin.ext e)
      exact Rect.unit_disjoint (1 : Fin 5) (by show n.val + 1 ≤ n'.val ∨ n'.val + 1 ≤ n.val; omega)
  · have h0' : t.val ≠ t'.val := fun e => h0 (Fin.ext e)
    exact Rect.unit_disjoint (0 : Fin 5) (by show t.val + 1 ≤ t'.val ∨ t'.val + 1 ≤ t.val; omega)

theorem comm_cover : (Finset.univ : Finset Slot).biUnion (fun i => (rC i).set) = Finset.univ := by
  ext x
  refine ⟨fun _ => Finset.mem_univ _, fun _ => Finset.mem_biUnion.mpr ⟨(x 0, x 1, x 2), Finset.mem_univ _, Rect.mem_set_unit.mpr fun a => ?_⟩⟩
  have hx := (x a).isLt
  match a with
  | ⟨0, _⟩ => exact ⟨Nat.le_refl _, Nat.lt_succ_self _⟩
  | ⟨1, _⟩ => exact ⟨Nat.le_refl _, Nat.lt_succ_self _⟩
  | ⟨2, _⟩ => exact ⟨Nat.le_refl _, Nat.lt_succ_self _⟩
  | ⟨3, _⟩ => exact ⟨Nat.zero_le _, lt_of_lt_of_eq hx (Nat.zero_add _).symm⟩
  | ⟨4, _⟩ => exact ⟨Nat.zero_le _, lt_of_lt_of_eq hx (Nat.zero_add _).symm⟩

/-- The landing buffer, whole. -/
def commR : sProp 𝕄 := iprop(∃ f : Buf (Elt F) ((c : Thread nD τ).loc cc0_scratch4), ((c : Thread nD τ).loc cc0_scratch4) ↦{fullShare} f)
/-- The start buffer, whole. -/
def headR : sProp 𝕄 := iprop(∃ f : Buf (Elt F) ((c : Thread nD τ).loc cc0_scratch3), ((c : Thread nD τ).loc cc0_scratch3) ↦{fullShare} f)

theorem free_points (i : Slot) : (freeR c i : sProp 𝕄)
    = iprop(∃ f : Buf (Elt F) ((c : Thread nD τ).loc cc0_scratch4), ((c : Thread nD τ).loc cc0_scratch4) ↦[((rC i).set : Finset (S4x8x2x8x2048.Idx))]{fullShare} f) := by
  unfold freeR owns
  refine eq_of_entails ?_ ?_
  · iintro ⟨%Y, %f, -, H⟩
    iexists f
    rw [← comm_set i]
    iexact H
  · iintro ⟨%f, H⟩
    iexists (cS i).view.read (Elt F) f
    iexists f
    isplitr
    · ipureintro; rfl
    · rw [comm_set i]
      iexact H

theorem freeR_intro (i : Slot) (f : Buf (Elt F) ((c : Thread nD τ).loc cc0_scratch4)) : (((c : Thread nD τ).loc cc0_scratch4) ↦[((rC i).set : Finset (S4x8x2x8x2048.Idx))]{fullShare} f : sProp 𝕄) ⊢ freeR c i := by
  rw [free_points]; iintro H; iexists f; iexact H

theorem comm_split : (commR c : sProp 𝕄) ⊢ seps (freeR c) (order ++ spare) := by
  rw [seps_eq_bigSep _ order_spare.1, order_spare.2]
  unfold commR
  iintro ⟨%f, H⟩
  ihave H := (show (((c : Thread nD τ).loc cc0_scratch4) ↦{fullShare} f : sProp 𝕄) ⊢ bigSep Finset.univ fun i : Slot =>
      (((c : Thread nD τ).loc cc0_scratch4) ↦[((rC i).set : Finset (S4x8x2x8x2048.Idx))]{fullShare} f) from
    Entails.of_eq (Eq.trans (by rw [comm_cover]) (pointsTo_biUnion (ℓ := (c : Thread nD τ).loc cc0_scratch4) (q := fullShare) (f := f) Finset.univ
      (fun i : Slot => ((rC i).set : Finset (S4x8x2x8x2048.Idx))) (fun i _ i' _ h => comm_disjoint h)))) $$ H
  iapply (show (bigSep Finset.univ fun i : Slot => (((c : Thread nD τ).loc cc0_scratch4) ↦[((rC i).set : Finset (S4x8x2x8x2048.Idx))]{fullShare} f) : sProp 𝕄) ⊢ bigSep Finset.univ (freeR c) from bigSep_mono fun i _ => freeR_intro c i f)
  iexact H

theorem comm_join : (seps (freeR c) (order ++ spare) : sProp 𝕄) ⊢ commR c := by
  rw [seps_eq_bigSep _ order_spare.1, order_spare.2]
  unfold commR
  iintro H
  ihave H := (show (bigSep Finset.univ (freeR c) : sProp 𝕄) ⊢ bigSep Finset.univ fun i : Slot => iprop(∃ f : Buf (Elt F) _, (((c : Thread nD τ).loc cc0_scratch4) ↦[((rC i).set : Finset (S4x8x2x8x2048.Idx))]{fullShare} f)) from
    bigSep_mono fun i _ => Entails.of_eq (free_points (F := F) c i)) $$ H
  ihave H := (BI.bigSep_exists_pi Finset.univ (fun (i : Slot) (f : Buf (Elt F) ((c : Thread nD τ).loc cc0_scratch4)) =>
    (((c : Thread nD τ).loc cc0_scratch4) ↦[((rC i).set : Finset (S4x8x2x8x2048.Idx))]{fullShare} f : sProp 𝕄))) $$ H
  icases H with ⟨%fs, H⟩
  ihave H := (pointsTo_biUnion_join Finset.univ (fun i : Slot => ((rC i).set : Finset (S4x8x2x8x2048.Idx))) fs (fs (0, 0, 0)) (fun i _ i' _ h => comm_disjoint h)) $$ H
  icases H with ⟨%g, -, H⟩
  iexists g
  rw [show (Finset.univ : Finset (Idx ((c : Thread nD τ).loc cc0_scratch4))) = (Finset.univ : Finset Slot).biUnion (fun i => (rC i).set) from comm_cover.symm]
  iexact H

/-! ## The start places -/

def headList : List (Fin 4 × Fin 2) := [(0,0), (0,1), (1,0), (1,1), (2,0), (2,1), (3,0), (3,1)]
theorem headList_nodup : headList.Nodup := by decide
theorem headList_univ : headList.toFinset = Finset.univ := by decide

abbrev rHp (e : Fin 4 × Fin 2) : Finset S4x2x8x2048.Idx := (rH e.1 e.2).set

theorem head_set (e : Fin 4 × Fin 2) : (hS e.1 e.2).view.set = rHp e :=
  (View.set_reshape _ _).trans ((View.set_slice _ _).trans (by ext x; exact ⟨fun h => by
    obtain ⟨y, hy, rfl⟩ := Finset.mem_map.mp h; exact hy, fun h => Finset.mem_map.mpr ⟨x, h, rfl⟩⟩))

theorem head_disjoint {e e' : Fin 4 × Fin 2} (h : e ≠ e') : Disjoint (rHp e) (rHp e') := by
  obtain ⟨t, s⟩ := e
  obtain ⟨t', s'⟩ := e'
  by_cases h0 : t = t'
  · have h2 : s ≠ s' := fun e => h (by rw [h0, e])
    have h2' : s.val ≠ s'.val := fun e => h2 (Fin.ext e)
    exact Rect.unit_disjoint (1 : Fin 4) (by show s.val + 1 ≤ s'.val ∨ s'.val + 1 ≤ s.val; omega)
  · have h0' : t.val ≠ t'.val := fun e => h0 (Fin.ext e)
    exact Rect.unit_disjoint (0 : Fin 4) (by show t.val + 1 ≤ t'.val ∨ t'.val + 1 ≤ t.val; omega)

theorem head_cover : (Finset.univ : Finset (Fin 4 × Fin 2)).biUnion rHp = Finset.univ := by
  ext x
  refine ⟨fun _ => Finset.mem_univ _, fun _ => Finset.mem_biUnion.mpr ⟨(x 0, x 1), Finset.mem_univ _, Rect.mem_set_unit.mpr fun a => ?_⟩⟩
  have hx := (x a).isLt
  match a with
  | ⟨0, _⟩ => exact ⟨Nat.le_refl _, Nat.lt_succ_self _⟩
  | ⟨1, _⟩ => exact ⟨Nat.le_refl _, Nat.lt_succ_self _⟩
  | ⟨2, _⟩ => exact ⟨Nat.zero_le _, lt_of_lt_of_eq hx (Nat.zero_add _).symm⟩
  | ⟨3, _⟩ => exact ⟨Nat.zero_le _, lt_of_lt_of_eq hx (Nat.zero_add _).symm⟩

theorem freeH_points (e : Fin 4 × Fin 2) : (freeH c e : sProp 𝕄)
    = iprop(∃ f : Buf (Elt F) ((c : Thread nD τ).loc cc0_scratch3), ((c : Thread nD τ).loc cc0_scratch3) ↦[rHp e]{fullShare} f) := by
  unfold freeH owns
  refine eq_of_entails ?_ ?_
  · iintro ⟨%Y, %f, -, H⟩
    iexists f
    rw [← head_set e]
    iexact H
  · iintro ⟨%f, H⟩
    iexists (hS e.1 e.2).view.read (Elt F) f
    iexists f
    isplitr
    · ipureintro; rfl
    · rw [head_set e]
      iexact H

theorem freeH_intro (e : Fin 4 × Fin 2) (f : Buf (Elt F) ((c : Thread nD τ).loc cc0_scratch3)) : (((c : Thread nD τ).loc cc0_scratch3) ↦[rHp e]{fullShare} f : sProp 𝕄) ⊢ freeH c e := by
  rw [freeH_points]; iintro H; iexists f; iexact H

theorem head_split : (headR c : sProp 𝕄) ⊢ seps (freeH c) headList := by
  rw [seps_eq_bigSep _ headList_nodup, headList_univ]
  unfold headR
  iintro ⟨%f, H⟩
  ihave H := (show (((c : Thread nD τ).loc cc0_scratch3) ↦{fullShare} f : sProp 𝕄) ⊢ bigSep Finset.univ fun e : Fin 4 × Fin 2 =>
      (((c : Thread nD τ).loc cc0_scratch3) ↦[rHp e]{fullShare} f) from
    Entails.of_eq (Eq.trans (by rw [head_cover]) (pointsTo_biUnion (ℓ := (c : Thread nD τ).loc cc0_scratch3) (q := fullShare) (f := f) Finset.univ
      rHp (fun i _ i' _ h => head_disjoint h)))) $$ H
  iapply (show (bigSep Finset.univ fun e : Fin 4 × Fin 2 => (((c : Thread nD τ).loc cc0_scratch3) ↦[rHp e]{fullShare} f) : sProp 𝕄) ⊢ bigSep Finset.univ (freeH c) from bigSep_mono fun e _ => freeH_intro c e f)
  iexact H

theorem head_join : (seps (freeH c) headList : sProp 𝕄) ⊢ headR c := by
  rw [seps_eq_bigSep _ headList_nodup, headList_univ]
  unfold headR
  iintro H
  ihave H := (show (bigSep Finset.univ (freeH c) : sProp 𝕄) ⊢ bigSep Finset.univ fun e : Fin 4 × Fin 2 => iprop(∃ f : Buf (Elt F) _, (((c : Thread nD τ).loc cc0_scratch3) ↦[rHp e]{fullShare} f)) from
    bigSep_mono fun e _ => Entails.of_eq (freeH_points (F := F) c e)) $$ H
  ihave H := (BI.bigSep_exists_pi Finset.univ (fun (e : Fin 4 × Fin 2) (f : Buf (Elt F) ((c : Thread nD τ).loc cc0_scratch3)) =>
    (((c : Thread nD τ).loc cc0_scratch3) ↦[rHp e]{fullShare} f : sProp 𝕄))) $$ H
  icases H with ⟨%fs, H⟩
  ihave H := (pointsTo_biUnion_join Finset.univ rHp fs (fs (0, 0)) (fun i _ i' _ h => head_disjoint h)) $$ H
  icases H with ⟨%g, -, H⟩
  iexists g
  rw [show (Finset.univ : Finset (Idx ((c : Thread nD τ).loc cc0_scratch3))) = (Finset.univ : Finset (Fin 4 × Fin 2)).biUnion rHp from head_cover.symm]
  iexact H

/-! ## The places at the end -/

/-- A place, whatever it holds. -/
def place : Ent → (Fin 4 × Fin 2) ⊕ Slot
  | .head t s => .inl (t, s)
  | .land i => .inr i
  | .fwd i => .inr i

def placeR : (Fin 4 × Fin 2) ⊕ Slot → sProp 𝕄
  | .inl e => freeH c e
  | .inr i => freeR c i

theorem ent_place (e : Ent) : entR m c e ⊢ placeR c (place e) := by
  cases e
  · unfold entR; exact (show _ ⊢ freeH c _ from by unfold freeH; iintro H; iexists _; iexact H)
  · unfold entR; exact (show _ ⊢ freeR c _ from by unfold freeR; iintro H; iexists _; iexact H)
  · unfold entR; exact (show _ ⊢ freeR c _ from by unfold freeR; iintro H; iexists _; iexact H)

theorem places_perm : (((order.map srcE).reverse ++ lastLands).map place).Perm (headList.map .inl ++ order.map .inr) := by decide +kernel

/-- The places held at the end, with the places no message uses, are the two buffers. -/
theorem places_join : iprop(seps (entR m c) ((order.map srcE).reverse ++ lastLands) ∗ seps (freeR c) spare) ⊢ iprop(headR c ∗ commR c) := by
  have h : seps (entR m c) ((order.map srcE).reverse ++ lastLands) ⊢ iprop(seps (freeH c) headList ∗ seps (freeR c) order) := by
    refine (seps_mono _ (fun e => placeR c (place e)) (ent_place m c) _).trans ?_
    rw [← seps_map (placeR (F := F) c) place]
    refine (seps_perm _ places_perm).trans ?_
    rw [seps_append, seps_map, seps_map]
    exact .rfl
  iintro ⟨He, Hs⟩
  ihave He := h $$ He
  icases He with ⟨Hh, Hc⟩
  isplitl [Hh]
  · iapply (head_join (F := F) c); iexact Hh
  · iapply (comm_join (F := F) c)
    rw [seps_append]
    isplitl [Hc]
    · iexact Hc
    · iexact Hs

end Cert.KernelIdeal.Stream

end
-- ==== Proof.KernelIdeal.Oblig.lean ====
/-
The body's obligation: from what a device is launched with to what it gives back.
-/
module

public import proofs.«01_k».proof.Proof.KernelIdeal.Body
public import proofs.«01_k».proof.Proof.KernelIdeal.Places
public import proofs.«01_k».proof.Proof.Gen.KernelIdeal.Points

@[expose] public section

set_option maxRecDepth 16384

noncomputable section

namespace Cert.KernelIdeal.Stream

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores, listed -/

def spareCells : List Cell := (spare.map fun i => some (false, i)) ++ spare.map fun i => some (true, i)
/-- Every semaphore of the protocol: in the order they are dealt, and in the order they are given back. -/
def cellsIn : List Cell := none :: ((order.map fun i => some (false, i)) ++ ((order.map fun i => some (true, i)) ++ spareCells))
def cellsOut : List Cell := ((order.map fun i => some (false, i)).reverse ++ arrived) ++ spareCells

theorem cellsIn_nodup : cellsIn.Nodup := by decide +kernel
theorem cellsIn_univ : cellsIn.toFinset = Finset.univ := by decide +kernel
theorem cellsOut_nodup : cellsOut.Nodup := by decide +kernel
theorem cellsOut_univ : cellsOut.toFinset = Finset.univ := by decide +kernel
theorem spareCells_idle : ∀ k ∈ spareCells, duty k = ∅ := by decide +kernel

/-! ## What a device starts and ends with -/

/-- The position of device `c` at one of its semaphores. -/
def atR (c : Dev nD) (k : Cell) : sProp 𝕄 := atPos ER (kcell (c, k)) 0 ∅ 0

/-- What device `c` holds of the protocol, without the records. -/
def base (c : Dev nD) : sProp 𝕄 :=
  iprop((dutyTok ER (barCell (prv c)) 0 true ∗ dutyTok ER (barCell (nxt c)) 0 false) ∗ (atPos ER (barCell c) 0 ∅ 0 ∗ cred (tallyAt (barCell c) () 2))
    ∗ seps (tokR c) order ∗ seps (waitR c) order ∗ seps (atR c) spareCells)

def start (c : Dev nD) : sProp 𝕄 := iprop(∃ K, recs m K ∗ base c)

/-- The scratch buffers, whatever they hold. -/
def restR (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ headR c ∗ commR c)

def Φ₀ (c : Dev nD) : sProp 𝕄 := iprop(start m c ∗ restR c)
def Φ₁ (c : Dev nD) : sProp 𝕄 := iprop(restR c ∗ seps (doneR (F := F) c) cellsOut)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => DY m c
    | ⟨2, _⟩ => OUT m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev t₀ : Fin cfg0.N := t0_0

/-- A staging buffer of device `c`, whole, at contents `Y`. -/
abbrev stg (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (X m c) ∗ stg c cc0_stg1_0 (DY m c) ∗ stg c cc0_stg2_0 (OUT m c))

/-- Semaphores nothing raises are closed. -/
theorem close_spare (K : Dev nD × Cell → ℕ) (c : Dev nD) : ∀ l : List Cell, (∀ k ∈ l, duty k = ∅) → iprop(recs m K ∗ seps (atR c) l) ⊢ |={Set.univ}=> seps (doneR (F := F) c) l
  | [], _ => by
    rw [seps_nil, seps_nil]
    iintro ⟨-, -⟩
    imodintro
    iempintro
  | k :: l, h => by
    rw [seps_cons, seps_cons]
    unfold atR
    iintro ⟨#HR, Hk, Hl⟩
    imod (close_unused m K c k (h k List.mem_cons_self)) $$ [Hk] with Hz
    · isplitr
      · iexact HR
      · iexact Hk
    imod (close_spare K c l fun j hj => h j (List.mem_cons_of_mem k hj)) $$ [Hl] with Hzl
    · isplitr
      · iexact HR
      · iexact Hl
    imodintro
    isplitl [Hz]
    · iexact Hz
    · iexact Hzl

theorem order_drop : order.drop 60 = [] := by decide
theorem order_take : order.take 60 = order := by decide

theorem all_rows : ∀ q : ℕ, q < 4 → q ∈ [3, 1, 2, 0] := by decide

/-- What the body leaves is what the device gives back. -/
theorem body_exit (K : Dev nD × Cell → ℕ) (c : Dev nD) :
    iprop(Done m K c 60 ∗ seps (doneR (F := F) c) spareCells ∗ seps (freeR c) spare) ⊢ bodyPost m ρ c := by
  unfold Done Sync bodyPost Φ₁ restR Mem inX inDY xtR xpR accR outR buf cellsOut
  rw [order_take, order_drop, seps_append (doneR (F := F) c) _ spareCells]
  iintro ⟨⟨⟨⟨%fx, %hx, Hx⟩, ⟨%fy, %hy, Hy⟩, ⟨%f0, -, H0⟩, ⟨%f1, -, H1⟩, ⟨%f2, -, H2⟩, ⟨%fo, %ho, Ho⟩⟩, -, ⟨%W, HO⟩, -, -, -, Hstk, Hcl⟩, Hsp, Hfr⟩
  ihave Hpl := (places_join m c) $$ [Hstk Hfr]
  · isplitl [Hstk]
    · iexact Hstk
    · iexact Hfr
  icases Hpl with ⟨Hh, Hc⟩
  isplitr [HO Hx Hy Ho]
  · isplitr [Hcl Hsp]
    · isplitl [H0]; · iexists f0; iexact H0
      isplitl [H1]; · iexists f1; iexact H1
      isplitl [H2]; · iexists f2; iexact H2
      isplitl [Hh]
      · iexact Hh
      · iexact Hc
    · isplitl [Hcl]
      · iexact Hcl
      · iexact Hsp
  isplitl [HO]
  · unfold Dat.owesAt Pipeline.owesWithin
    rw [show (dats m ρ 0 c).owed t₀.succ = 0 from rfl]
    iexists W
    isplitr
    · ipureintro; exact fun _ _ => Or.inl trivial
    · iexact HO
  isplitl [Hx]
  · iexists fx
    isplitr
    · ipureintro; exact funext fun i => hx i trivial
    · iexact Hx
  isplitl [Hy]
  · iexists fy
    isplitr
    · ipureintro; exact funext fun i => hy i trivial
    · iexact Hy
  · iexists fo
    isplitr
    · ipureintro
      refine funext fun i => ho i ?_
      have h : (i (0 : Fin 2)).val < 32 := (i (0 : Fin 2)).isLt
      exact all_rows _ (by omega)
    · iexact Ho

/-- The landing places, dealt: those the neighbour before sends into, those the neighbour after does, and the unused. -/
theorem comm_deal (c : Dev nD) : commR (F := F) c ⊢ iprop(seps (freeR (F := F) c) rightOrder ∗ seps (freeR c) leftOrder ∗ seps (freeR c) spare) :=
  (comm_split c).trans (by
    rw [seps_append]
    refine (sep_mono_left (seps_perm (freeR (F := F) c) order_perm.symm)).trans ?_
    rw [seps_append]
    iintro ⟨⟨Ha, Hb⟩, Hc⟩
    isplitl [Hb]
    · iexact Hb
    isplitl [Ha]
    · iexact Ha
    · iexact Hc)

theorem body_enter (c : Dev nD) : bodyPre m ρ c
    ⊢ WP c (cc0_body (F := F) xM (Memref.isWhole_whole _) dyM (Memref.isWhole_whole _) outM (Memref.isWhole_whole _) xtM (Memref.isWhole_whole _) xpM (Memref.isWhole_whole _)
        accM (Memref.isWhole_whole _) headM (Memref.isWhole_whole _) commM (Memref.isWhole_whole _) cc0_scratch5 cc0_scratch6) (fun _ => bodyPost m ρ c) := by
  unfold bodyPre Φ₀ start restR base
  iintro ⟨⟨⟨%K, #HR, ⟨Htp, Htn⟩, ⟨Hat, Hcr⟩, Htok, Hw, Hsp⟩, ⟨%f0, H0⟩, ⟨%f1, H1⟩, ⟨%f2, H2⟩, Hh, Hc⟩, HO,
    ⟨%d0, %g0, %hg0, Hx⟩, ⟨%d1, %g1, %hg1, Hy⟩, ⟨%d2, %g2, -, Ho⟩⟩
  have hx : g0 = X m c := by rw [hg0]; unfold Dat.before; rw [if_pos (fetch0_0 t₀)]; rfl
  have hy : g1 = DY m c := by rw [hg1]; unfold Dat.before; rw [if_pos (fetch0_1 t₀)]; rfl
  unfold Dat.owesAt Pipeline.owesWithin
  rw [show (dats m ρ 0 c).owed t₀.castSucc = O₀ c from rfl]
  icases HO with ⟨%W, -, HO⟩
  ihave Hh := (head_split (F := F) c) $$ Hh
  ihave Hc := (comm_deal (F := F) c) $$ Hc
  icases Hc with ⟨Hcr', Hcl, Hfr⟩
  imod (close_spare m K c spareCells spareCells_idle) $$ [Hsp] with Hz
  · isplitr
    · iexact HR
    · iexact Hsp
  iapply (show iprop((Mem m c false 0 [] [] ∗ Heads m c [(0,0), (0,1), (1,0), (1,1), (2,0), (2,1), (3,0), (3,1)] [] ∗ Bar0 m K c [])
      ∗ (seps (doneR (F := F) c) spareCells ∗ seps (freeR c) spare)) ⊢ WP c (cc0_body (F := F) xM (Memref.isWhole_whole _) dyM (Memref.isWhole_whole _) outM (Memref.isWhole_whole _) xtM (Memref.isWhole_whole _) xpM (Memref.isWhole_whole _)
        accM (Memref.isWhole_whole _) headM (Memref.isWhole_whole _) commM (Memref.isWhole_whole _) cc0_scratch5 cc0_scratch6) (fun _ => bodyPost m ρ c) from
    (sep_mono_left (body_run m K c (Q := fun _ => Done m K c 60) .rfl)).trans ((wp_frame_r _ _ _).trans (wp_mono _ _ _ fun _ => body_exit m ρ K c)))
  isplitr [Hz Hfr]
  · isplitl [Hx Hy Ho H0 H1 H2]
    · unfold Mem inX inDY xtR xpR accR outR buf
      isplitl [Hx]
      · iexists g0
        isplitr
        · ipureintro; exact fun i _ => congrFun hx i
        · iexact Hx
      isplitl [Hy]
      · iexists g1
        isplitr
        · ipureintro; exact fun i _ => congrFun hy i
        · iexact Hy
      isplitl [H0]
      · iexists f0
        isplitr
        · ipureintro; exact fun i h => (Bool.false_ne_true h).elim
        · iexact H0
      isplitl [H1]
      · iexists f1
        isplitr
        · ipureintro; exact fun i h => absurd h (Nat.not_lt_zero _)
        · iexact H1
      isplitl [H2]
      · iexists f2
        isplitr
        · ipureintro; exact fun i h => absurd h List.not_mem_nil
        · iexact H2
      · iexists g2
        isplitr
        · ipureintro; exact fun i h => absurd h List.not_mem_nil
        · iexact Ho
    isplitl [Hh]
    · unfold Heads
      isplitl [Hh]
      · iexact Hh
      · rw [seps_nil]; iempintro
    unfold Bar0 Held
    isplitr; · iexact HR
    isplitl [HO]; · iexists W; iexact HO
    isplitl [Htp Hcr']
    · isplitl [Htp]
      · iexact Htp
      · iexact Hcr'
    isplitl [Htn Hcl]
    · isplitl [Htn]
      · iexact Htn
      · iexact Hcl
    isplitl [Hat]; · iexact Hat
    isplitl [Hcr]; · iexact Hcr
    isplitl [Htok]; · iexact Htok
    isplitl [Hw]; · iexact Hw
    rw [seps_nil]; iempintro
  · isplitl [Hz]
    · iexact Hz
    · iexact Hfr

theorem label_body : defs₀ (F := F) Proc.tc 0 (t0_0, cfg0.slots t0_0) = bodyAt0 t0_0 := rfl
theorem body_slots : bodyAt0 (F := F) t0_0 = cc0_body (F := F) xM (Memref.isWhole_whole _) dyM (Memref.isWhole_whole _) outM (Memref.isWhole_whole _) xtM (Memref.isWhole_whole _)
    xpM (Memref.isWhole_whole _) accM (Memref.isWhole_whole _) headM (Memref.isWhole_whole _) commM (Memref.isWhole_whole _) cc0_scratch5 cc0_scratch6 := by
  unfold bodyAt0
  congr 1

/-- The body's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  refine (show _ ⊢ bodyPre m ρ c from .rfl).trans ((body_enter m ρ c).trans ?_)
  rw [label_body, body_slots]
  generalize cc0_body (F := F) xM (Memref.isWhole_whole _) dyM (Memref.isWhole_whole _) outM (Memref.isWhole_whole _) xtM (Memref.isWhole_whole _)
    xpM (Memref.isWhole_whole _) accM (Memref.isWhole_whole _) headM (Memref.isWhole_whole _) commM (Memref.isWhole_whole _) cc0_scratch5 cc0_scratch6 = p
  exact wp_mono _ _ _ fun _ => .rfl

end Cert.KernelIdeal.Stream

end
-- ==== Proof.KernelIdeal.Run.lean ====
/-
The launch: semaphores, tokens and credits dealt to the sixteen devices, and the run of `@main`.
-/
module

public import proofs.«01_k».proof.Proof.KernelIdeal.Oblig
public import Idealize.ShloMosaic.Lib.Pipeline.Launch
public import Idealize.ShloMosaic.Lib.Pipeline.Kit
public import Idealize.ShloMosaic.Lib.Pipeline.CollectiveSegs
public import proofs.«01_k».proof.Proof.Gen.KernelIdeal.Points

@[expose] public section

set_option maxRecDepth 16384

noncomputable section

namespace Cert.KernelIdeal.Stream

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sums over a device's semaphores -/

theorem bigSep_cells (Φ : Cell → sProp 𝕄) : bigSep Finset.univ Φ = seps Φ cellsIn := by
  rw [seps_eq_bigSep Φ cellsIn_nodup, cellsIn_univ]
theorem bigSep_cells_out (Φ : Cell → sProp 𝕄) : bigSep Finset.univ Φ = seps Φ cellsOut := by
  rw [seps_eq_bigSep Φ cellsOut_nodup, cellsOut_univ]

/-- The four parts of a device's semaphores: the barrier, the sends, the receives, the unused. -/
theorem cells_parts (Φ : Cell → sProp 𝕄) : bigSep Finset.univ Φ
    = iprop(Φ none ∗ seps (fun i => Φ (some (false, i))) order ∗ seps (fun i => Φ (some (true, i))) order ∗ seps Φ spareCells) := by
  rw [bigSep_cells]
  unfold cellsIn
  rw [seps_cons, seps_append, seps_append, seps_map, seps_map]

/-- The barrier, and a device's own semaphores. -/
theorem bigSep_cell_split (Φ : Cell → sProp 𝕄) : bigSep Finset.univ Φ = iprop(Φ none ∗ bigSep Finset.univ fun p : Bool × Slot => Φ (some p)) := by
  have h : (Finset.univ : Finset Cell) = insert none (Finset.univ.map ⟨some, Option.some_injective (Bool × Slot)⟩) := by
    ext k
    rcases k with _ | p
    · exact iff_of_true (Finset.mem_univ _) (Finset.mem_insert_self _ _)
    · exact iff_of_true (Finset.mem_univ _) (Finset.mem_insert_of_mem (Finset.mem_map.mpr ⟨p, Finset.mem_univ _, rfl⟩))
  rw [h, BI.bigSep_insert (fun h' => by
    obtain ⟨p, -, e⟩ := Finset.mem_map.mp h'
    exact Option.some_ne_none p e), bigSep_map]
  rfl

/-- A sum over devices of a list of resources, taken message by message. -/
theorem bigSep_seps {α : Type} (Ψ : Dev nD → α → sProp 𝕄) : ∀ l : List α,
    (bigSep Finset.univ fun c : Dev nD => seps (Ψ c) l) = seps (fun i => bigSep Finset.univ fun c : Dev nD => Ψ c i) l
  | [] => by
    rw [seps_nil]
    exact eq_of_entails (by iintro -; iempintro) (by
      rw [show (fun c : Dev nD => seps (Ψ c) []) = fun _ => iprop(emp) from rfl]
      exact BI.bigSep_of_persistent Finset.univ iprop(emp))
  | a :: l => by
    rw [seps_cons, ← bigSep_seps Ψ l, ← bigSep_sep']
    rfl

/-- A whole-chip sum reaches every member of a list. -/
theorem bigSep_to_seps {α β : Type} [DecidableEq α] [DecidableEq β] [Fintype β] (Φ : β → sProp 𝕄) (f : α → β) (hf : Function.Injective f) {l : List α} (hl : l.Nodup) :
    bigSep Finset.univ Φ ⊢ seps (fun a => Φ (f a)) l := by
  rw [← seps_map, seps_eq_bigSep Φ (hl.map hf)]
  exact BI.bigSep_subset (Finset.subset_univ _)

/-! ## The launch element -/

/-- The kernel's own semaphores. -/
def osem : Bool × Slot → SemLoc sig := fun p => csem (some p)

theorem ownSemFacts : Pipeline.OwnSemFacts cfg0.spec osem where
  isScoped := by decide +kernel
  inj := fun p q h => Option.some.inj (csem_injective h)
  disj := by
    rintro ⟨b, i⟩ w s h
    have hw : ∀ (w : Fin cfg0.W) (s : Fin (cfg0.win w).nbuf), ((cfg0.win w).sem s).val < 3 := by decide +kernel
    have h1 := hw w s
    cases b with
    | false =>
      have h2 := congrArg Fin.val (SemLoc.dma.inj (show SemLoc.dma (sendS i) = SemLoc.dma ((cfg0.win w).sem s) from h))
      rw [sendS_val] at h2
      omega
    | true =>
      have h2 := congrArg Fin.val (SemLoc.dma.inj (show SemLoc.dma (recvS i) = SemLoc.dma ((cfg0.win w).sem s) from h))
      rw [recvS_val] at h2
      omega

theorem share_eq (c : Dev nD) (w : Fin cfg0.W) : (dats m ρ 0 c).share w = fullShare := by unfold Dat.share; split <;> rfl

def ringCells : Finset (GSem nD τ sig) := Finset.univ.map ⟨kcell, kcell_injective⟩

/-- A token for each raise of each semaphore. -/
def tokOf (p : Dev nD × Cell × Bool) : GSem nD τ sig × ℕ × Bool := (kcell (p.1, p.2.1), 0, p.2.2)
theorem tokOf_injective : Function.Injective tokOf := by
  rintro ⟨c, k, b⟩ ⟨c', k', b'⟩ h
  have h1 := kcell_injective (congrArg Prod.fst h)
  have h2 : b = b' := congrArg (fun x : GSem nD τ sig × ℕ × Bool => x.2.2) h
  obtain ⟨rfl, rfl⟩ := Prod.mk.inj h1
  subst h2
  rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of device `c`'s semaphores. -/
def toks (c : Dev nD) : sProp 𝕄 :=
  bigSep Finset.univ fun k : Cell => iprop(dutyTok ER (kcell (c, k)) 0 false ∗ dutyTok ER (kcell (c, k)) 0 true)

def G (c : Dev nD) : sProp 𝕄 :=
  iprop((bigSep Finset.univ fun k : Cell => roundState ER (ringRd m) (kcell (c, k)) 0)
    ∗ (bigSep Finset.univ fun k : Cell => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_prod]
    refine bigSep_congr fun k _ => ?_
    rw [bigSep_univ_eq_bigSepL [false, true] (by decide) (by decide), bigSepL_cons_cons, bigSepL_singleton]
    rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']
    · iexact Hat'
    · iexact Hr'
  iexact Htok'

theorem unscopedSems0_eq (c : Dev nD) : (unscopedSems0 c : sProp 𝕄) = semVal (kcell (c, none)) 0 := by
  unfold unscopedSems0; rw [bigSep_eq_bigSepL_of_eq [SemLoc.reg barS] (by decide) (by decide)]; rfl

theorem sems0_eq (c : Dev nD) : (bigSep Finset.univ fun k : Cell => semVal (kcell (c, k)) 0 : sProp 𝕄)
    = iprop(unscopedSems0 c ∗ Pipeline.ownSems0 (Ix := Unit) (Name := ℕ) (U := UU) (Lvl := ℕ) (Val := Elt F) (τ := τ) osem c) := by
  rw [bigSep_cell_split, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus]
    · iexact Hus
    · iexact Hos
  imod (show iprop((bigSep Finset.univ fun k : Cell => semVal (kcell (c, k)) 0) ∗ bigSep Finset.univ fun k : Cell => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv]
    · iexact Hv
    · iexact Hst
  imodintro
  isplitl [Hinv]; · iexact Hinv
  isplitl [Hat]; · iexact Hat
  iexact Htok

/-! ## Dealing the tokens -/

/-- The tokens of the raises device `c` performs. -/
def payToks (c : Dev nD) : sProp 𝕄 :=
  iprop((dutyTok ER (barCell (prv c)) 0 true ∗ dutyTok ER (barCell (nxt c)) 0 false)
    ∗ seps (fun i => dutyTok ER (sendCell c i) 0 false) order ∗ seps (fun i => dutyTok ER (recvCell (tgt c i.1) i) 0 false) order)

theorem toks_parts (c : Dev nD) : (toks c : sProp 𝕄)
    ⊢ iprop(dutyTok ER (barCell c) 0 true ∗ dutyTok ER (barCell c) 0 false
      ∗ seps (fun i => dutyTok ER (sendCell c i) 0 false) order ∗ seps (fun i => dutyTok ER (recvCell c i) 0 false) order) := by
  unfold toks
  rw [cells_parts, seps_sep, seps_sep]
  iintro ⟨⟨H1, H2⟩, ⟨H3, -⟩, ⟨H4, -⟩, -⟩
  isplitl [H2]; · iexact H2
  isplitl [H1]; · iexact H1
  isplitl [H3]; · iexact H3
  iexact H4

/-- A stream's step as a bijection of the devices. -/
def streamStep (t : Fin 4) : Dev nD ≃ Dev nD := ⟨fun c => tgt c t, fun c => src c t, fun c => src_tgt c t, fun c => tgt_src c t⟩

theorem toks_turn :
    (bigSep Finset.univ fun c : Dev nD => iprop(dutyTok ER (barCell c) 0 true ∗ dutyTok ER (barCell c) 0 false
      ∗ seps (fun i => dutyTok ER (sendCell c i) 0 false) order ∗ seps (fun i => dutyTok ER (recvCell c i) 0 false) order) : sProp 𝕄)
      ⊢ bigSep Finset.univ fun c : Dev nD => payToks c := by
  unfold payToks
  rw [bigSep_sep', bigSep_sep', bigSep_sep', bigSep_sep', bigSep_sep', bigSep_sep',
    bigSep_univ_equiv ringStep.symm (fun c : Dev nD => (dutyTok ER (barCell c) 0 true : sProp 𝕄)),
    bigSep_univ_equiv ringStep (fun c : Dev nD => (dutyTok ER (barCell c) 0 false : sProp 𝕄)),
    bigSep_seps (fun c i => (dutyTok ER (recvCell c i) 0 false : sProp 𝕄)), bigSep_seps (fun c i => (dutyTok ER (recvCell (tgt c i.1) i) 0 false : sProp 𝕄)),
    seps_congr _ (fun i : Slot => bigSep Finset.univ fun c : Dev nD => (dutyTok ER (recvCell (tgt c i.1) i) 0 false : sProp 𝕄)) fun i _ =>
      bigSep_univ_equiv (streamStep i.1) fun c : Dev nD => (dutyTok ER (recvCell c i) 0 false : sProp 𝕄)]
  iintro ⟨H1, H2, H3, H4⟩
  isplitl [H1 H2]
  · isplitl [H1]
    · iexact H1
    · iexact H2
  isplitl [H3]; · iexact H3
  iexact H4

theorem toks_around : (bigSep Finset.univ fun c : Dev nD => (toks c : sProp 𝕄)) ⊢ bigSep Finset.univ fun c : Dev nD => payToks c :=
  (bigSep_mono fun c _ => toks_parts c).trans toks_turn

/-- What stays with device `c`: its positions, and the tokens of the raises it performs. -/
def linear (c : Dev nD) : sProp 𝕄 := iprop((bigSep Finset.univ fun k : Cell => atR c k) ∗ payToks c)

/-- Every semaphore's invariant and mark. -/
def invs (K : Dev nD × Cell → ℕ) : sProp 𝕄 :=
  iprop((bigSep Finset.univ fun ck : Dev nD × Cell => cellInv ER (ringRd m) (K ck) (kcell ck))
    ∗ bigSep Finset.univ fun ck : Dev nD × Cell => reached ER (kcell ck) 0)

instance invs_persistent (K : Dev nD × Cell → ℕ) : BI.Persistent (invs m K) := by unfold invs; infer_instance

def G' (c : Dev nD) : sProp 𝕄 := iprop(∃ K, invs m K ∗ linear c)

theorem G'_intro (K : Dev nD × Cell → ℕ) (c : Dev nD) : iprop(invs m K ∗ linear c) ⊢ G' m c := by
  unfold G'; iintro H; iexists K; iexact H

theorem with_persistent {I : Type} [DecidableEq I] (S : Finset I) (R : sProp 𝕄) [BI.Persistent R] (Φ Ψ : I → sProp 𝕄)
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cell => iprop(∃ κ : ℕ, cellInv ER (ringRd m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (ringRd m) κ (kcell ck) : sProp 𝕄))) $$ HI
  icases HK with ⟨%K, #HI⟩
  ihave Htk := (toks_around (F := F)) $$ Htok
  iapply (with_persistent Finset.univ (invs m K) linear (G' m) fun c _ => G'_intro m K c)
  isplitr
  · unfold invs
    isplitl
    · iexact HI
    · iexact HR
  · iapply (Entails.of_eq (bigSep_sep' Finset.univ (fun c : Dev nD => bigSep Finset.univ fun k : Cell => (atR c k : sProp 𝕄)) payToks).symm)
    isplitl [Hat]
    · iexact Hat
    · iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem kcell_dev {c d : Dev nD} {k k' : Cell} (h : kcell (c, k) = kcell (d, k')) : c = d := (Prod.mk.inj (kcell_injective h)).1
theorem kcell_cell {c d : Dev nD} {k k' : Cell} (h : kcell (c, k) = kcell (d, k')) : k = k' := (Prod.mk.inj (kcell_injective h)).2
theorem bar_ne_recv (c d : Dev nD) (i : Slot) : barCell c ≠ recvCell d i :=
  fun h => Option.some_ne_none _ (kcell_cell (c := c) (d := d) (k := none) (k' := some (true, i)) h).symm
theorem recv_slot {c d : Dev nD} {i j : Slot} (h : recvCell c i = recvCell d j) : i = j :=
  (Prod.mk.inj (Option.some.inj (kcell_cell (c := c) (d := d) (k := some (true, i)) (k' := some (true, j)) h))).2
theorem recv_dev {c d : Dev nD} {i j : Slot} (h : recvCell c i = recvCell d j) : c = d :=
  kcell_dev (k := some (true, i)) (k' := some (true, j)) h
theorem bar_dev {c d : Dev nD} (h : barCell c = barCell d) : c = d := kcell_dev (k := none) (k' := none) h

/-- What device `d` owes by its messages: nothing to a barrier, -/
theorem owing_bar (d c : Dev nD) : ∀ l : List Slot, owing d l (barCell c) () = 0
  | [] => rfl
  | i :: l => by
    rw [owing, Pi.add_apply, Finsupp.add_apply, owing_bar d c l, tallyAt_ne_cell (bar_ne_recv c _ i), Finsupp.zero_apply, Nat.add_zero]

/-- a full landing to each place it sends into. -/
theorem owing_recv (d c : Dev nD) (i : Slot) : ∀ l : List Slot, l.Nodup → owing d l (recvCell c i) () = if i ∈ l ∧ d = src c i.1 then N else 0
  | [], _ => (if_neg fun h => List.not_mem_nil h.1).symm
  | j :: l, hl => by
    rw [List.nodup_cons] at hl
    rw [owing, Pi.add_apply, Finsupp.add_apply, owing_recv d c i l hl.2]
    by_cases hj : j = i
    · subst hj
      rw [if_neg (fun h => hl.1 h.1), Nat.zero_add, tallyAt_apply]
      by_cases hd : d = src c j.1
      · subst hd
        rw [tgt_src, if_pos ⟨rfl, rfl⟩, if_pos ⟨List.mem_cons_self, rfl⟩]
      · rw [if_neg (fun h => hd (by rw [recv_dev h.1, src_tgt])), if_neg (fun h => hd h.2)]
    · rw [tallyAt_ne_cell (fun h => hj (recv_slot h).symm), Finsupp.zero_apply, Nat.add_zero]
      have hm : (i ∈ j :: l ∧ d = src c i.1) ↔ (i ∈ l ∧ d = src c i.1) := by
        rw [List.mem_cons]
        exact ⟨fun h => ⟨h.1.resolve_left fun e => hj e.symm, h.2⟩, fun h => ⟨Or.inr h.1, h.2⟩⟩
      simp only [hm]

theorem owed_bar (d c : Dev nD) : O₀ d (barCell c) () = (if d = prv c then 1 else 0) + (if d = nxt c then 1 else 0) := by
  unfold O₀ O₁
  rw [Pi.add_apply, Finsupp.add_apply, Pi.add_apply, Finsupp.add_apply, owing_bar, tallyAt_apply, tallyAt_apply, Nat.zero_add]
  congr 1
  · by_cases h : d = prv c
    · subst h; rw [nxt_prv, if_pos ⟨rfl, rfl⟩, if_pos rfl]
    · rw [if_neg (fun h' => h (by rw [bar_dev h'.1, prv_nxt])), if_neg h]
  · by_cases h : d = nxt c
    · subst h; rw [prv_nxt, if_pos ⟨rfl, rfl⟩, if_pos rfl]
    · rw [if_neg (fun h' => h (by rw [bar_dev h'.1, nxt_prv])), if_neg h]

theorem owed_recv (d c : Dev nD) {i : Slot} (hi : i ∈ order) : O₀ d (recvCell c i) () = if d = src c i.1 then N else 0 := by
  unfold O₀ O₁
  rw [Pi.add_apply, Finsupp.add_apply, Pi.add_apply, Finsupp.add_apply, owing_recv d c i order order_nodup,
    tallyAt_ne_cell (bar_ne_recv _ c i).symm, tallyAt_ne_cell (bar_ne_recv _ c i).symm, Finsupp.zero_apply, Nat.add_zero, Nat.add_zero]
  by_cases h : d = src c i.1
  · rw [if_pos ⟨hi, h⟩, if_pos h]
  · rw [if_neg (fun h' => h h'.2), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

theorem launch_recv (c : Dev nD) {i : Slot} (hi : i ∈ order) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c hi, Finset.sum_ite_eq' Finset.univ (src c i.1) fun _ => N,
    if_pos (Finset.mem_univ _)]

/-- The semaphores device `c` is owed raises of. -/
def waited : List Cell := none :: order.map fun i => some (true, i)
theorem waited_nodup : waited.Nodup := by decide +kernel

theorem creds (c : Dev nD) :
    (Pipeline.launchCred O₀ c : sProp 𝕄) ⊢ iprop(cred (tallyAt (barCell c) () 2) ∗ seps (fun i => cred (tallyAt (recvCell c i) () N)) order) := by
  unfold Pipeline.launchCred
  refine (bigSep_to_seps _ csem csem_injective waited_nodup).trans ?_
  unfold waited
  rw [seps_cons, seps_map]
  refine BIClass.sep_mono (Entails.of_eq (congrArg cred (launch_bar c))) (Entails.of_eq ?_)
  exact seps_congr _ _ fun i hi => congrArg cred (launch_recv c hi)

/-! ## The conditions of the launch -/

theorem base_intro (c : Dev nD) :
    iprop(linear c ∗ cred (tallyAt (barCell c) () 2) ∗ seps (fun i => cred (tallyAt (recvCell c i) () N)) order) ⊢ (base c : sProp 𝕄) := by
  unfold linear payToks base
  rw [cells_parts]
  rw [show seps (atR (F := F) c) spareCells = seps (fun k => atPos ER (kcell (c, k)) 0 ∅ 0) spareCells from rfl]
  unfold atR
  rw [show seps (tokR (F := F) c) order = iprop(seps (fun i => dutyTok ER (sendCell c i) 0 false) order
      ∗ seps (fun i => dutyTok ER (recvCell (tgt c i.1) i) 0 false) order ∗ seps (fun i => atPos ER (sendCell c i) 0 ∅ 0) order) from by
    rw [← seps_sep, ← seps_sep]; rfl]
  rw [show seps (waitR (F := F) c) order = iprop(seps (fun i => atPos ER (recvCell c i) 0 ∅ 0) order ∗ seps (fun i => cred (tallyAt (recvCell c i) () N)) order) from by
    rw [← seps_sep]; rfl]
  iintro ⟨⟨⟨Ha, Hs, Hr, Hu⟩, Ht, Hts, Htr⟩, Hc, Hcr⟩
  isplitl [Ht]; · iexact Ht
  isplitl [Ha Hc]
  · isplitl [Ha]
    · iexact Ha
    · iexact Hc
  isplitl [Hts Htr Hs]
  · isplitl [Hts]; · iexact Hts
    isplitl [Htr]; · iexact Htr
    iexact Hs
  isplitl [Hr Hcr]
  · isplitl [Hr]
    · iexact Hr
    · iexact Hcr
  · iexact Hu

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start invs recs
  iintro ⟨-, #Hlev, Hcr, -, ⟨%K, ⟨#HI, #HR⟩, Hlin⟩⟩
  ihave Hc := (creds (F := F) c) $$ Hcr
  imodintro
  isplitl
  · iexists K
    isplitr
    · isplitr
      · iexact HI
      isplitr
      · iexact HR
      · iexact Hlev
    · iapply (base_intro (F := F) c)
      isplitl [Hlin]
      · iexact Hlin
      · iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ restR headR commR
  iintro ⟨Hs, -, Hr⟩
  isplitl [Hs]
  · iexact Hs
  · iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ restR headR commR
  rw [← bigSep_cells_out (doneR (F := F) c), show (bigSep Finset.univ (doneR (F := F) c)) = _ from sems0_eq c]
  iintro ⟨Hr, Hu, Ho⟩
  isplitl [Hu]; · iexact Hu
  isplitl [Ho]
  · iexact Ho
  · iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with every counter zero, every fair execution of `@main` on the sixteen devices ends, with each device's
    arrays at the computed contents and every counter back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP]
      · iexact HP
      · iexact HG)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]
      · iexact Hu
      · iexact HSI)
    (hQ := fun _ h hs => ⟨fun c w => (h c).1 w, sem_eq_zero hs fun c => (h c).2.2⟩)

/-- The operand arrays after the run hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_dy (c : Dev nD) : finalA m ρ c (1 : Fin 3) = (s₀ m ρ).mem (win0_1.arr.view.loc (c : Thread nD τ)) :=
  (dats (F := F) m ρ 0 c).arrAt_in (1 : Fin 3) rfl _

end Cert.KernelIdeal.Stream

end
-- ==== Proof.KernelIdeal.Value.lean ====
/- The values over the extended reals: what the sixteen devices end with is the sum of their products, the sum of each
   device's own rows being the rows of the whole product. -/
module

public import proofs.«01_k».proof.Proof.KernelIdeal.Run
public import Idealize.ShloMosaic.Lib.Pointwise
public import Idealize.ShloMosaic.Lib.Pipeline.Value
public import Idealize.ShloMosaic.Lib.Pipeline.ValueKit.Acc

@[expose] public section

set_option maxRecDepth 16384

noncomputable section

namespace Cert.KernelIdeal.Stream

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable (m : (ℓ : Loc nD τ sig) → Buf (Elt Ideal) ℓ) (ρ : Dev nD → PrngReg)

/-! ## The arrays -/

/-- The windows are whole arrays: what a device reads is its array, and what it writes back is its result. -/
theorem X_eq (c : Dev nD) : X m c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _
theorem DY_eq (c : Dev nD) : DY m c = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _

theorem finalA_out (c : Dev nD) : finalA m ρ c (2 : Fin 3) = OUT m c := by
  have hz : (fun a => (win0_2.index (0 : Fin 1)) a * main_v1.ty.shape.size a) = fun _ => 0 := funext fun a => by fin_cases a <;> decide
  have hr := Memref.read_access_unit_zero (Elt Ideal) main_v1 hz (fun a => by fin_cases a <;> decide) (finalA m ρ c (2 : Fin 3))
  refine hr.symm.trans ?_
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-! ## One device's product -/

/-- Entry `(r, n)` of `xᵀ · dy` of device `e`'s blocks. -/
def T (n : Fin 2048) (r : ℕ) (e : Dev nD) : EReal := ∑ k : Fin 512, X m e (ValueIdx.ix2 k (row512 r)) * DY m e (ValueIdx.ix2 k n)

theorem row512_val (n : ℕ) (h : n < 512) : (row512 n).val = n := Nat.mod_eq_of_lt h

theorem ix2_eq {a b : ℕ} (i : Fin a) (j : Fin b) : Idealize.ShloMosaic.ix2 i j = ValueIdx.ix2 i j := by
  funext k
  match k with
  | ⟨0, _⟩ => rfl
  | ⟨1, _⟩ => rfl

theorem XT_apply (c : Dev nD) (i j : Fin 512) : XT m c (ValueIdx.ix2 i j) = X m c (ValueIdx.ix2 j i) := by
  unfold XT k0_pay1
  generalize X m c = x
  pointwise
  rw [ix2_eq]

theorem dot_apply (a : FVec Ideal S128x512 .f32) (b : FVec Ideal S512x2048 .f32) (i : Fin 128) (n : Fin 2048) :
    k0_pay18 a b (ValueIdx.ix2 i n) = ∑ k : Fin 512, a (ValueIdx.ix2 i k) * b (ValueIdx.ix2 k n) := by
  unfold k0_pay18
  pointwise
  refine Finset.sum_congr rfl fun k _ => ?_
  rw [ix2_eq, ix2_eq]

/-- Which device's rows the rows `32 q` to `32 q + 31` of device `c`'s product are. -/
def blockAt (c : Dev nD) (q : ℕ) : Dev nD := ringAt (pos c + q + 6)

theorem rows_pick (c : Dev nD) (r : ℕ) (hr : r < 512) (b : ℕ) (hb : b = r % 128) (k : Fin 512) :
    xpPiece m c (r / 128) (ValueIdx.ix2 ⟨b, by omega⟩ k) = X m c (ValueIdx.ix2 k (row512 (32 * (blockAt c (r / 32)).val + r % 32))) := by
  subst hb
  have h : (row512 (128 * (r / 128) + r % 128)).val = r := by rw [Nat.div_add_mod]; exact row512_val r hr
  unfold xpPiece XP xtRows blockAt
  rw [XT_apply]
  show X m c (ValueIdx.ix2 k (row512 (32 * (ringAt (pos c + (row512 (128 * (r / 128) + r % 128)).val / 32 + 6)).val
    + (row512 (128 * (r / 128) + r % 128)).val % 32))) = _
  rw [h]

theorem ACC_apply (c : Dev nD) (q b : ℕ) (hq : q < 16) (hb : b < 32) (n : Fin 2048) :
    ACC m c (ValueIdx.ix2 (row512 (32 * q + b)) n) = T m n (32 * (blockAt c q).val + b) c := by
  have hr : (row512 (32 * q + b)).val = 32 * q + b := row512_val _ (by omega)
  have h1 : (row512 (32 * q + b)).val / 32 = q := by omega
  have h2 : (row512 (32 * q + b)).val % 32 = b := by omega
  unfold ACC accPiece
  rw [dot_apply]
  unfold T
  refine Finset.sum_congr rfl fun k _ => ?_
  have h := rows_pick m c (row512 (32 * q + b)).val (by omega) _ rfl k
  rw [h1, h2] at h
  exact congrArg (· * DY m c (ValueIdx.ix2 k n)) h

/-- Eight rows of device `c`'s product. -/
theorem rowsA_apply (c : Dev nD) (q b : ℕ) (hq : q < 16) (hb : b + 8 ≤ 32) (i : Fin 8) (n : Fin 2048) :
    rowsA m c (32 * q + b) (ValueIdx.ix2 i n) = T m n (32 * (blockAt c q).val + (b + i.val)) c := by
  have h := ACC_apply m c q (b + i.val) hq (by omega) n
  rw [← Nat.add_assoc] at h
  exact h

/-! ## The messages -/

/-- The devices whose rows are in the message device `c` receives of stream `t` on hop `h`. -/
def passed (t : Fin 4) : ℕ → Dev nD → List (Dev nD)
  | 0, c => [src c t]
  | h + 1, c => src c t :: passed t h (src c t)

/-- The block of rows a stream starts with, and the one added after hop `h`. -/
def hblock (t : ℕ) : ℕ := match t with | 0 => 2 | 1 => 3 | 2 => 2 | _ => 1
def ablock (t h : ℕ) : ℕ := (match t with | 0 => 17 - h | 1 => 4 + h | 2 => 3 + h | _ => 16 - h) % 16

/-- The device whose rows the message of stream `t` that device `c` receives on hop `h` carries. -/
def dest (t : Fin 4) : ℕ → Dev nD → Dev nD
  | 0, c => blockAt (src c t) (hblock t.val)
  | h + 1, c => blockAt (src c t) (ablock t.val h)

theorem dest_step : ∀ (t : Fin 4) (h : Fin 7) (c : Dev nD), dest t h.val (src c t) = dest t (h.val + 1) c := by decide +kernel
theorem dest_last : ∀ (u : Fin 2) (c : Dev nD), dest ⟨2 * u.val, by omega⟩ 7 c = c ∧ dest ⟨2 * u.val + 1, by omega⟩ 6 c = c := by decide +kernel

/-- Where in its block a message's rows lie. -/
def lane (t : Fin 4) (s : ℕ) : ℕ := 16 * (t.val / 2) + 8 * s

theorem hoff_eq (t : Fin 4) (s : ℕ) : hoff t.val s = 32 * hblock t.val + lane t s := by
  fin_cases t <;> simp [hoff, hblock, lane] <;> omega
theorem aoff_eq (t : Fin 4) (h s : ℕ) : aoff t.val h s = 32 * ablock t.val h + lane t s := by
  unfold aoff ablock lane; exact Nat.add_assoc _ _ _
theorem hblock_lt (t : Fin 4) : hblock t.val < 16 := by revert t; decide
theorem ablock_lt (t h : ℕ) : ablock t h < 16 := Nat.mod_lt _ (by decide)
theorem lane_le (t : Fin 4) (s : ℕ) (hs : s < 2) : lane t s + 8 ≤ 32 := by unfold lane; omega

theorem addRows_apply (v : FVec Ideal S8x2048 .bf16) (a : FVec Ideal S8x2048 .f32) (j : S8x2048.Idx) : addRows v a j = v j + a j := rfl
theorem hd_apply (c : Dev nD) (t s : ℕ) (j : S8x2048.Idx) : hd m c t s j = rowsA m c (hoff t s) j := rfl

/-- A message is the sum of the rows of the devices it has passed. -/
theorem msg_apply (t : Fin 4) (s : ℕ) (hs : s < 2) (i : Fin 8) (n : Fin 2048) : ∀ (h : ℕ) (_ : h ≤ 7) (c : Dev nD),
    msg m t s h c (ValueIdx.ix2 i n) = ((passed t h c).map (T m n (32 * (dest t h c).val + (lane t s + i.val)))).sum
  | 0, _, c => by
    unfold msg passed dest
    rw [hd_apply, hoff_eq, rowsA_apply m _ _ _ (hblock_lt t) (lane_le t s hs), List.map_singleton, List.sum_singleton]
  | h + 1, hh, c => by
    have ih := msg_apply t s hs i n h (by omega) (src c t)
    rw [dest_step t ⟨h, by omega⟩ c] at ih
    unfold msg passed
    rw [addRows_apply, ih, aoff_eq, rowsA_apply m _ _ _ (ablock_lt _ _) (lane_le t s hs), List.map_cons, List.sum_cons, add_comm]
    rfl

/-! ## The result -/

/-- The two streams that end at a quarter of the result between them pass every other device once. -/
theorem passed_all : ∀ (u : Fin 2) (c : Dev nD), (c :: (passed ⟨2 * u.val, by omega⟩ 7 c ++ passed ⟨2 * u.val + 1, by omega⟩ 6 c)).Perm (List.finRange 16) := by
  decide +kernel

theorem blockAt_own (c : Dev nD) : blockAt c 10 = c := by revert c; decide +kernel

theorem landed_apply (c : Dev nD) (t : Fin 4) (h : Fin 8) (s : Fin 2) (hd : dest t h.val c = c) (i : Fin 8) (n : Fin 2048) :
    extf .f32 (landed m c (t, h, s)) bitsLt_bf16_f32 (ValueIdx.ix2 i n) = ((passed t h.val c).map (T m n (32 * c.val + (lane t s.val + i.val)))).sum := by
  have e := msg_apply m t s.val s.isLt i n h.val (by omega) c
  rw [hd] at e
  exact e

theorem sum_all (u : Fin 2) (c : Dev nD) (f : Dev nD → EReal) :
    f c + ((passed ⟨2 * u.val, by omega⟩ 7 c).map f).sum + ((passed ⟨2 * u.val + 1, by omega⟩ 6 c).map f).sum = ∑ e : Fin 16, f e := by
  rw [Fin.sum_univ_def, ← ((passed_all u c).map f).sum_eq, List.map_cons, List.map_append, List.sum_cons, List.sum_append, add_assoc]

theorem ends_at : ∀ u s : Fin 2,
    (if 2 * u.val + s.val < 2 then (0 : Fin 4) else 2) = ⟨2 * u.val, by omega⟩ ∧
    (if 2 * u.val + s.val < 2 then (1 : Fin 4) else 3) = ⟨2 * u.val + 1, by omega⟩ ∧
    (if (2 * u.val + s.val) % 2 = 0 then (0 : Fin 2) else 1) = s := by decide

/-- Eight rows of the result: the sum over all devices of their products' rows. -/
theorem outRows_apply (c : Dev nD) (u s : Fin 2) (i : Fin 8) (n : Fin 2048) :
    outRows m c (2 * u.val + s.val) (ValueIdx.ix2 i n) = ∑ e : Fin 16, T m n (32 * c.val + (8 * (2 * u.val + s.val) + i.val)) e := by
  rw [← sum_all u c]
  have h1 := landed_apply m c ⟨2 * u.val, by omega⟩ 7 s (dest_last u c).1 i n
  have h2 := landed_apply m c ⟨2 * u.val + 1, by omega⟩ 6 s (dest_last u c).2 i n
  have h0 := rowsA_apply m c 10 (8 * (2 * u.val + s.val)) (by decide) (by omega) i n
  rw [blockAt_own] at h0
  have hl : ∀ k : ℕ, k = 2 * u.val ∨ k = 2 * u.val + 1 → 16 * (k / 2) + 8 * s.val = 8 * (2 * u.val + s.val) := fun k hk => by omega
  unfold lane at h1 h2
  rw [hl _ (Or.inl rfl)] at h1
  rw [hl _ (Or.inr rfl)] at h2
  unfold outRows
  rw [(ends_at u s).1, (ends_at u s).2.1, (ends_at u s).2.2]
  exact congrArg₂ (· + ·) (congrArg₂ (· + ·) h0 h1) h2

/-- An entry of device `c`'s result. -/
theorem OUT_apply (c : Dev nD) (i : Fin 32) (n : Fin 2048) : OUT m c (ValueIdx.ix2 i n) = ∑ e : Fin 16, T m n (32 * c.val + i.val) e := by
  have hi := i.isLt
  have h := outRows_apply m c ⟨i.val / 16, by omega⟩ ⟨i.val / 8 % 2, by omega⟩ ⟨i.val % 8, by omega⟩ n
  have e1 : 2 * (i.val / 16) + i.val / 8 % 2 = i.val / 8 := by omega
  have e2 : 8 * (i.val / 8) + i.val % 8 = i.val := Nat.div_add_mod _ _
  dsimp only at h
  rw [e1, e2] at h
  exact h

end Cert.KernelIdeal.Stream

end
-- ==== Proof.KernelIdeal.Whole.lean ====
/- The reference's product of the whole arrays, cut as the devices' arrays are: its block at a device is that device's
   result. -/
module

public import proofs.«01_k».proof.Proof.KernelIdeal.Value
public import proofs.«01_k».proof.Proof.Gen.ReferenceIdeal.Run
public import Idealize.ShloMosaic.Lib.Layout

@[expose] public section

set_option maxRecDepth 16384

noncomputable section

namespace Cert.KernelIdeal.Stream

open Idealize.ShloMosaic
open Idealize.ShloMosaic.TcCoe

/-- The reference's result from the whole arrays. -/
def refOut (x : FVec Ideal ⟨2, ![8192, 512]⟩ .f32) (y : FVec Ideal ⟨2, ![8192, 2048]⟩ .f32) : FVec Ideal ⟨2, ![512, 2048]⟩ .f32 :=
  Host.dotGeneral Cert.ReferenceIdeal.dot_S512x8192_S8192x2048_S512x2048_1_0_0_1_n_n none
    (transpose Cert.ReferenceIdeal.S512x8192 [1, 0] x Cert.ReferenceIdeal.Gen.facts.transposes_S8192x512_S512x8192_1_0) y

theorem refOut_apply (x : FVec Ideal ⟨2, ![8192, 512]⟩ .f32) (y : FVec Ideal ⟨2, ![8192, 2048]⟩ .f32) (r : Fin 512) (n : Fin 2048) :
    refOut x y (ValueIdx.ix2 r n) = ∑ k : Fin 8192, x (ValueIdx.ix2 k r) * y (ValueIdx.ix2 k n) := by
  unfold refOut
  pointwise
  refine Finset.sum_congr rfl fun k _ => ?_
  rw [ix2_eq, ix2_eq]

/-- An entry of block `c` of an array cut into 16 blocks of rows. -/
theorem block_rows {a b A : ℕ} (h : Layout.Tiles ⟨2, ![a, b]⟩ ⟨2, ![A, b]⟩ 0 16) (c : Fin 16) (v : FVec Ideal ⟨2, ![A, b]⟩ .f32)
    (i : Fin a) (j : Fin b) (r : Fin A) (hr : c.val * a + i.val = r.val) :
    Layout.block ⟨2, ![a, b]⟩ ⟨2, ![A, b]⟩ 0 16 c v h (ValueIdx.ix2 i j) = v (ValueIdx.ix2 r j) := by
  rw [Layout.block_apply]
  refine congrArg v (funext fun d => Fin.ext ?_)
  match d with
  | ⟨0, _⟩ => exact hr
  | ⟨1, _⟩ => rfl

/-- If the devices' arrays are the blocks of the whole arrays `x` and `y`, each device's result is the block of the
    reference's: the sum over the devices of sums over a device's rows is the sum over all rows. -/
theorem OUT_block (m : (ℓ : Loc nD τ sig) → Buf (Elt Ideal) ℓ)
    (x : FVec Ideal ⟨2, ![8192, 512]⟩ .f32) (y : FVec Ideal ⟨2, ![8192, 2048]⟩ .f32)
    (hx : ∀ c, X m c = Layout.block ⟨2, ![512, 512]⟩ ⟨2, ![8192, 512]⟩ 0 16 c x)
    (hy : ∀ c, DY m c = Layout.block ⟨2, ![512, 2048]⟩ ⟨2, ![8192, 2048]⟩ 0 16 c y) (c : Dev nD) :
    OUT m c = Layout.block ⟨2, ![32, 2048]⟩ ⟨2, ![512, 2048]⟩ 0 16 c (refOut x y) := by
  funext i
  obtain ⟨p, q, rfl⟩ : ∃ (p : Fin 32) (q : Fin 2048), i = ValueIdx.ix2 p q := ⟨i 0, i 1, funext fun d => match d with
    | ⟨0, _⟩ => rfl
    | ⟨1, _⟩ => rfl⟩
  have hc : c.val < 16 := c.isLt
  have hrow : 32 * c.val + p.val < 512 := by omega
  rw [OUT_apply, block_rows _ c _ p q ⟨32 * c.val + p.val, hrow⟩ (by dsimp only; omega), refOut_apply]
  unfold T
  refine Fin.sum_mul_add_congr (S := 16) (n := 512) (L := 8192) (fun e k hl => ?_)
  rw [hx e, hy e, block_rows _ e x k _ ⟨e.val * 512 + k.val, hl⟩ rfl, block_rows _ e y k q ⟨e.val * 512 + k.val, hl⟩ rfl,
    show row512 (32 * c.val + p.val) = ⟨32 * c.val + p.val, hrow⟩ from Fin.ext (row512_val _ hrow)]

end Cert.KernelIdeal.Stream

end
-- ==== Proof.lean ====
/- The five claims: the kernel's run over the bit-level floats and over the extended reals, the reference's run, and the
   equality of each device's result with its block of the reference's.  The runs are in Proof/Kernel/Run and
   Proof/KernelIdeal/Run (one text at two float instances), the equality in Proof/KernelIdeal/Value and Whole. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Whole
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel over the bit-level floats: its run, of which only the two argument arrays and the counters are kept. -/
theorem frame_kernel : Cert.quiescent_Kernel (hKernel := Cert.Kernel.Gen.facts) := fun m g _ =>
  (θ_run _ _ _).mono (fun _ h => ⟨fun c =>
      ⟨(h.1 c (0 : Fin 3)).trans (Cert.Kernel.Stream.finalA_x m g c), (h.1 c (1 : Fin 3)).trans (Cert.Kernel.Stream.finalA_dy m g c)⟩, h.2⟩)
    (Cert.Kernel.Stream.run_main (F := Bits) m g)

/-- The same over the extended reals. -/
theorem frame_ideal : Cert.quiescent_KernelIdeal (hKernelIdeal := Cert.KernelIdeal.Gen.facts) := fun m g _ =>
  (θ_run _ _ _).mono (fun _ h => ⟨fun c =>
      ⟨(h.1 c (0 : Fin 3)).trans (Cert.KernelIdeal.Stream.finalA_x m g c), (h.1 c (1 : Fin 3)).trans (Cert.KernelIdeal.Stream.finalA_dy m g c)⟩, h.2⟩)
    (Cert.KernelIdeal.Stream.run_main (F := Ideal) m g)

/-- The reference, which has no counter at all. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- Each device's result is its block of the reference's result. -/
theorem algebraic : Cert.algebraic_KernelIdeal_ReferenceIdeal (hKernelIdeal := Cert.KernelIdeal.Gen.facts)
    (hReferenceIdeal := Cert.ReferenceIdeal.Gen.facts) := fun m g m' g' _ hin => by
  refine ⟨Cert.KernelIdeal.Stream.refOut
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · have hout := Cert.KernelIdeal.Stream.OUT_block m _ _
      (fun c => (Cert.KernelIdeal.Stream.X_eq m c).trans (hin c).1) (fun c => (Cert.KernelIdeal.Stream.DY_eq m c).trans (hin c).2)
    exact (θ_run _ _ _).mono (fun _ h c =>
      ⟨(h.1 c (2 : Fin 3)).trans ((Cert.KernelIdeal.Stream.finalA_out m g c).trans (hout c)),
        (h.1 c (0 : Fin 3)).trans (Cert.KernelIdeal.Stream.finalA_x m g c), (h.1 c (1 : Fin 3)).trans (Cert.KernelIdeal.Stream.finalA_dy m g c)⟩)
      (Cert.KernelIdeal.Stream.run_main (F := Ideal) m g)
  · exact (θ_run _ _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, algebraic⟩

end Cert.Proof

end
